-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x32x64 : S_.BroadcastsInDim S2x512x32x64 (![] : Fin 0 → Fin S2x512x32x64.rank)

variable [Facts]

def fn {F : FTy → Type} [FloatOps F] (main_arg0 : FVec F S2x512x768 .bf16) (main_arg1 : FVec F S768x512 .bf16) (main_arg2 : FVec F S2x512x32x64 .bf16) (main_arg3 : FVec F S2x512x32x64 .bf16) (main_arg4 : FVec F S512x768 .bf16) : IVec S2x512x768 1 × IVec S768x512 1 × IVec S2x512x32x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x32x64 .f32 := (extf .f32 · bitsLt_bf16_f32) main_arg2
  let main_v9 : FVec F S2x512x32x64 .f32 := Host.absf main_v8
  let main_cst_1 : FVec F S_ .f32 := constant S_ .f32 0x7F800000#32
  let main_v10 : FVec F S2x512x32x64 .f32 := broadcastInDim S2x512x32x64 ![] bcast_S_S2x512x32x64 main_cst_1
  let main_v11 : IVec S2x512x32x64 1 := cmpf .olt main_v9 main_v10
  (main_v3, main_v7, main_v11)
-- ==== Pre_finite_scores_ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bitsLt_bf16_f32 : FTy.bits .bf16 < FTy.bits .f32
  bcast_S_S2x2048x768 : S_.BroadcastsInDim S2x2048x768 (![] : Fin 0 → Fin S2x2048x768.rank)
  bcast_S_S768x2048 : S_.BroadcastsInDim S768x2048 (![] : Fin 0 → Fin S768x2048.rank)
  bcast_S_S2x512x32x64 : S_.BroadcastsInDim S2x512x32x64 (![] : Fin 0 → Fin S2x512x32x64.rank)

variable [Facts]

def fn {F : FTy → Type} [FloatOps F] (main_arg0 : FVec F S2x2048x768 .bf16) (main_arg1 : FVec F S768x2048 .bf16) (main_arg2 : FVec F S2x512x32x64 .bf16) (main_arg3 : FVec F S2x512x32x64 .bf16) (main_arg4 : FVec F S2048x768 .bf16) : IVec S2x2048x768 1 × IVec S768x2048 1 × IVec S2x512x32x64 1 :=
  let main_v0 : FVec F S2x2048x768 .f32 := (extf .f32 · bitsLt_bf16_f32) main_arg0
  let main_v1 : FVec F S2x2048x768 .f32 := Host.absf main_v0
  let main_cst : FVec F S_ .f32 := constant S_ .f32 0x7F800000#32
  let main_v2 : FVec F S2x2048x768 .f32 := broadcastInDim S2x2048x768 ![] bcast_S_S2x2048x768 main_cst
  let main_v3 : IVec S2x2048x768 1 := cmpf .olt main_v1 main_v2
  let main_v4 : FVec F S768x2048 .f32 := (extf .f32 · bitsLt_bf16_f32) main_arg1
  let main_v5 : FVec F S768x2048 .f32 := Host.absf main_v4
  let main_cst_0 : FVec F S_ .f32 := constant S_ .f32 0x7F800000#32
  let main_v6 : FVec F S768x2048 .f32 := broadcastInDim S768x2048 ![] bcast_S_S768x2048 main_cst_0
  let main_v7 : IVec S768x2048 1 := cmpf .olt main_v5 main_v6
  let main_v8 : FVec F S2x512x32x64 .f32 := (extf .f32 · bitsLt_bf16_f32) main_arg2
  let main_v9 : FVec F S2x512x32x64 .f32 := Host.absf main_v8
  let main_cst_1 : FVec F S_ .f32 := constant S_ .f32 0x7F800000#32
  let main_v10 : FVec F S2x512x32x64 .f32 := broadcastInDim S2x512x32x64 ![] bcast_S_S2x512x32x64 main_cst_1
  let main_v11 : IVec S2x512x32x64 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S32x2x512x64 : Shape := ⟨4, ![32, 2, 512, 64]⟩
abbrev S4x768x512 : Shape := ⟨3, ![4, 768, 512]⟩
abbrev S4x512x768 : Shape := ⟨3, ![4, 512, 768]⟩
abbrev S8 : Shape := ⟨1, ![8]⟩
abbrev S1x768x512 : Shape := ⟨3, ![1, 768, 512]⟩
abbrev S1x512x768 : Shape := ⟨3, ![1, 512, 768]⟩
abbrev S1024x768 : Shape := ⟨2, ![1024, 768]⟩
abbrev S_ : Shape := ⟨0, ![]⟩
abbrev S1 : Shape := ⟨1, ![1]⟩
abbrev S1024x512 : Shape := ⟨2, ![1024, 512]⟩
abbrev S2x512x8x64 : Shape := ⟨4, ![2, 512, 8, 64]⟩
abbrev S8x2x512x64 : Shape := ⟨4, ![8, 2, 512, 64]⟩
abbrev S16x2x4x64x64 : Shape := ⟨5, ![16, 2, 4, 64, 64]⟩
abbrev S16x2x1x64x64 : Shape := ⟨5, ![16, 2, 1, 64, 64]⟩
abbrev S16x2x64x64 : Shape := ⟨4, ![16, 2, 64, 64]⟩
abbrev S16x128x64 : Shape := ⟨3, ![16, 128, 64]⟩
abbrev S16x128x128 : Shape := ⟨3, ![16, 128, 128]⟩
abbrev S16x128 : Shape := ⟨2, ![16, 128]⟩
abbrev S16x128x1 : Shape := ⟨3, ![16, 128, 1]⟩
abbrev S1x384x512 : Shape := ⟨3, ![1, 384, 512]⟩
abbrev S1x256x768 : Shape := ⟨3, ![1, 256, 768]⟩

abbrev nBuf : Space → Nat
  | .hbm => 8
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x32x64, .bf16⟩
  | .hbm, ⟨3, _⟩ => ⟨S2x512x32x64, .bf16⟩
  | .hbm, ⟨4, _⟩ => ⟨S512x768, .bf16⟩
  | .hbm, ⟨5, _⟩ => ⟨S32x2x512x64, .bf16⟩
  | .hbm, ⟨6, _⟩ => ⟨S32x2x512x64, .bf16⟩
  | .hbm, ⟨7, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S32x2x512x64, .bf16⟩
  | .local _ .vmem, ⟨3, _⟩ => ⟨S32x2x512x64, .bf16⟩
  | .local _ .vmem, ⟨4, _⟩ => ⟨S512x768, .bf16⟩
  | .local _ .vmem, ⟨5, _⟩ => ⟨S2x512x768, .f32⟩
  | .local _ .vmem, ⟨6, _⟩ => ⟨S4x768x512, .bf16⟩
  | .local _ .vmem, ⟨7, _⟩ => ⟨S4x512x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : Index := Scalar.indexCast v2
  let c0_5 : Index := 0#32
  let c0_6 : Index := 0#32
  ![v12.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : Index := Scalar.indexCast v2
  let c0_9 : Index := 0#32
  let c0_10 : Index := 0#32
  ![v19.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_15 : BitVec 32 := 1#32
  let v27 : BitVec 32 := Scalar.muli v4 c1_i32_15
  let v28 : BitVec 32 := Scalar.addi c0_i32 v27
  v28.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_17 : BitVec 32 := 1#32
  let v29 : BitVec 32 := Scalar.muli v6 c1_i32_17
  let v30 : BitVec 32 := Scalar.addi c0_i32_18 v29
  v30.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_24 : BitVec 32 := 0#32
  let c0_i32_25 : BitVec 32 := 0#32
  ![v2.toNat, 0, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_22 : BitVec 32 := 1#32
  let v31 : BitVec 32 := Scalar.muli v6 c1_i32_22
  let v32 : BitVec 32 := Scalar.addi c0_i32_23 v31
  v32.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let c0_i32_33 : BitVec 32 := 0#32
  ![v2.toNat, 0, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_30 : BitVec 32 := 1#32
  let v39 : BitVec 32 := Scalar.muli v6 c1_i32_30
  let v40 : BitVec 32 := Scalar.addi c0_i32_31 v39
  v40.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_38 : BitVec 32 := 1#32
  let v47 : BitVec 32 := Scalar.muli v4 c1_i32_38
  let v48 : BitVec 32 := Scalar.addi c0_i32_39 v47
  v48.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_46 : BitVec 32 := 1#32
  let v55 : BitVec 32 := Scalar.muli v4 c1_i32_46
  let v56 : BitVec 32 := Scalar.addi c0_i32_47 v55
  v56.toNat
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v76 : BitVec 32 := Scalar.muli v2 c8_i32
  let v77 : Index := Scalar.indexCast v76
  let c0_57 : Index := 0#32
  let c0_58 : Index := 0#32
  let c0_59 : Index := 0#32
  ![v77.toNat, 0, 0, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c0_i32_101 : BitVec 32 := 0#32
  let c0_i32_102 : BitVec 32 := 0#32
  ![v4.toNat, 0, 0]
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_99 : BitVec 32 := 1#32
  let v191 : BitVec 32 := Scalar.muli v6 c1_i32_99
  let v192 : BitVec 32 := Scalar.addi c0_i32_100 v191
  v192.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c0_i32_108 : BitVec 32 := 0#32
  let c0_i32_109 : BitVec 32 := 0#32
  ![v4.toNat, 0, 0]
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_106 : BitVec 32 := 1#32
  let v199 : BitVec 32 := Scalar.muli v6 c1_i32_106
  let v200 : BitVec 32 := Scalar.addi c0_i32_107 v199
  v200.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c384_i32 : BitVec 32 := 384#32
  let c0_i32_131 : BitVec 32 := 0#32
  ![v6.toNat, 384, 0]
def k0_dev9 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_129 : BitVec 32 := 1#32
  let v219 : BitVec 32 := Scalar.muli v4 c1_i32_129
  let v220 : BitVec 32 := Scalar.addi c0_i32_130 v219
  v220.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c256_i32 : BitVec 32 := 256#32
  let c0_i32_137 : BitVec 32 := 0#32
  ![v6.toNat, 256, 0]
def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_135 : BitVec 32 := 1#32
  let v227 : BitVec 32 := Scalar.muli v4 c1_i32_135
  let v228 : BitVec 32 := Scalar.addi c0_i32_136 v227
  v228.toNat
def k0_off10 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v235 : Index := Scalar.indexCast v4
  let c0_140 : Index := 0#32
  let c0_141 : Index := 0#32
  ![v235.toNat, 0, 0]
def k0_off11 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v238 : Index := Scalar.indexCast v4
  let c0_142 : Index := 0#32
  let c0_143 : Index := 0#32
  ![v238.toNat, 0, 0]
def k0_off12 (d0 : Dev nD) (c3_i32 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c8_i32_146 : BitVec 32 := 8#32
  let v248 : BitVec 32 := Scalar.muli v4 c8_i32_146
  let v249 : Index := Scalar.indexCast v248
  let c0_147 : Index := 0#32
  let c0_148 : Index := 0#32
  let c0_149 : Index := 0#32
  ![v249.toNat, 0, 0, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S2x2048x2048 : Shape := ⟨3, ![2, 2048, 2048]⟩
abbrev S2x2048x32x64 : Shape := ⟨4, ![2, 2048, 32, 64]⟩
abbrev S2048 : Shape := ⟨1, ![2048]⟩
abbrev S_ : Shape := ⟨0, ![]⟩
abbrev S2048x1 : Shape := ⟨2, ![2048, 1]⟩
abbrev S512 : Shape := ⟨1, ![512]⟩
abbrev S1x512 : Shape := ⟨2, ![1, 512]⟩
abbrev S2048x512 : Shape := ⟨2, ![2048, 512]⟩
abbrev S2x32x2048x512 : Shape := ⟨4, ![2, 32, 2048, 512]⟩
abbrev S1x1x2048x512 : Shape := ⟨4, ![1, 1, 2048, 512]⟩
abbrev S2x32x2048 : Shape := ⟨3, ![2, 32, 2048]⟩
abbrev S2x32x2048x1 : Shape := ⟨4, ![2, 32, 2048, 1]⟩
abbrev S1x1x2048x1 : Shape := ⟨4, ![1, 1, 2048, 1]⟩
abbrev S2x32x64x2048 : Shape := ⟨4, ![2, 32, 64, 2048]⟩

abbrev nBuf : Space → Nat
  | .hbm => 142
  | .vmem => 0
  | .smem => 0
  | _ => 0

abbrev hbmTy0_0 (i : Nat) : BufTy := match i % 128 with
  | 0 => ⟨S2x2048x768, .bf16⟩
  | 1 => ⟨S768x2048, .bf16⟩
  | 2 => ⟨S2x512x32x64, .bf16⟩
  | 3 => ⟨S2x512x32x64, .bf16⟩
  | 4 => ⟨S2048x768, .bf16⟩
  | 5 => ⟨S2x2048x768, .f32⟩
  | 6 => ⟨S768x2048, .f32⟩
  | 7 => ⟨S2x512x32x64, .f32⟩
  | 8 => ⟨S2x512x32x64, .f32⟩
  | 9 => ⟨S2048x768, .f32⟩
  | 10 => ⟨S2x2048x2048, .f32⟩
  | 11 => ⟨S2x2048x32x64, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S512, .i32⟩
  | 33 => ⟨S_, .i32⟩
  | 34 => ⟨S_, .i32⟩
  | 35 => ⟨S512, .i32⟩
  | 36 => ⟨S512, .i32⟩
  | 37 => ⟨S512, .i32⟩
  | 38 => ⟨S_, .i32⟩
  | 39 => ⟨S512, .i32⟩
  | 40 => ⟨S512, .i1⟩
  | 41 => ⟨S512, .i32⟩
  | 42 => ⟨S512, .i32⟩
  | 43 => ⟨S_, .i32⟩
  | 44 => ⟨S512, .i32⟩
  | 45 => ⟨S512, .i1⟩
  | 46 => ⟨S512, .i1⟩
  | 47 => ⟨S_, .i32⟩
  | 48 => ⟨S512, .i32⟩
  | 49 => ⟨S512, .i32⟩
  | 50 => ⟨S512, .i32⟩
  | 51 => ⟨S1x512, .i32⟩
  | 52 => ⟨S2048x512, .i32⟩
  | 53 => ⟨S2048x512, .i32⟩
  | 54 => ⟨S2048x512, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x512, .i32⟩
  | 62 => ⟨S1x512, .i32⟩
  | 63 => ⟨S_, .i32⟩
  | 64 => ⟨S1x512, .i32⟩
  | 65 => ⟨S1x512, .i1⟩
  | 66 => ⟨S_, .i32⟩
  | 67 => ⟨S1x512, .i32⟩
  | 68 => ⟨S1x512, .i1⟩
  | 69 => ⟨S_, .i32⟩
  | 70 => ⟨S_, .i1⟩
  | 71 => ⟨S1x512, .i1⟩
  | 72 => ⟨S1x512, .i1⟩
  | 73 => ⟨S1x512, .i1⟩
  | 74 => ⟨S1x512, .i32⟩
  | 75 => ⟨S1x512, .i32⟩
  | 76 => ⟨S1x512, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i1⟩
  | 91 => ⟨S_, .i32⟩
  | 92 => ⟨S_, .i1⟩
  | 93 => ⟨S2048x1, .i1⟩
  | 94 => ⟨S2048x1, .i1⟩
  | 95 => ⟨S2048x1, .i1⟩
  | 96 => ⟨S2048x1, .i32⟩
  | 97 => ⟨S2048x1, .i32⟩
  | 98 => ⟨S2048x1, .i32⟩
  | 99 => ⟨S2048x512, .i32⟩
  | 100 => ⟨S2048x512, .i32⟩
  | 101 => ⟨S2048x512, .i1⟩
  | 102 => ⟨S2048x512, .i1⟩
  | 103 => ⟨S2x32x2048x512, .f32⟩
  | 104 => ⟨S_, .f32⟩
  | 105 => ⟨S2x32x2048x512, .f32⟩
  | 106 => ⟨S2x32x2048x512, .f32⟩
  | 107 => ⟨S1x1x2048x512, .i1⟩
  | 108 => ⟨S_, .f32⟩
  | 109 => ⟨S_, .f32⟩
  | 110 => ⟨S2x32x2048x512, .i1⟩
  | 111 => ⟨S2x32x2048x512, .f32⟩
  | 112 => ⟨S2x32x2048x512, .f32⟩
  | 113 => ⟨S_, .f32⟩
  | 114 => ⟨S2x32x2048, .f32⟩
  | 115 => ⟨S2x32x2048x1, .f32⟩
  | 116 => ⟨S2x32x2048x512, .f32⟩
  | 117 => ⟨S2x32x2048x512, .f32⟩
  | 118 => ⟨S2x32x2048x512, .f32⟩
  | 119 => ⟨S_, .i1⟩
  | 120 => ⟨S2048, .i1⟩
  | 121 => ⟨S1x1x2048x1, .i1⟩
  | 122 => ⟨S_, .f32⟩
  | 123 => ⟨S2x32x2048, .f32⟩
  | 124 => ⟨S2x32x2048x1, .f32⟩
  | 125 => ⟨S_, .f32⟩
  | 126 => ⟨S_, .f32⟩
  | 127 => ⟨S2x32x2048x1, .i1⟩
  | _ => ⟨S2x2048x768, .bf16⟩

abbrev hbmTy0_1 (i : Nat) : BufTy := match i % 128 with
  | 0 => ⟨S2x32x2048x1, .f32⟩
  | 1 => ⟨S2x32x2048x1, .f32⟩
  | 2 => ⟨S2x32x2048x512, .f32⟩
  | 3 => ⟨S2x32x2048x512, .f32⟩
  | 4 => ⟨S1x1x2048x1, .i1⟩
  | 5 => ⟨S_, .f32⟩
  | 6 => ⟨S_, .f32⟩
  | 7 => ⟨S2x32x2048x512, .i1⟩
  | 8 => ⟨S2x32x2048x512, .f32⟩
  | 9 => ⟨S2x32x2048x512, .f32⟩
  | 10 => ⟨S2x32x64x2048, .f32⟩
  | 11 => ⟨S2x2048x32x64, .f32⟩
  | 12 => ⟨S2x2048x2048, .f32⟩
  | 13 => ⟨S2x2048x768, .f32⟩
  | _ => ⟨S2x2048x768, .bf16⟩

abbrev hbmTy (i : Nat) : BufTy := match i / 128 with
  | 0 => hbmTy0_0 i
  | 1 => hbmTy0_1 i
  | _ => ⟨S2x2048x768, .bf16⟩

abbrev bufTy : (tb : Table) → Fin (tcTables nBuf tb) → BufTy
  | .hbm, ⟨i, _⟩ => hbmTy i
  | _, _ => ⟨S2x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Geometry.lean ====
/-
# The ring, the pieces of the two gathered weight buffers, and what a copy leaves

Four devices on a ring. Every device holds two scratch buffers of four slots each, one for the query weights
and one for the output weights; slot `j` is meant for the weights of device `j`. The kernel fills its own slot,
receives the slots of its two neighbours whole, and the slot of the device opposite in two halves, one from each
side. The file names these pieces as sets of indices, shows that they tile the buffers, and shows that a copy
between the same piece of two devices leaves there what the source held.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.Regions
public import Idealize.ShloMosaic.Lib.Tactic

@[expose] public section

set_option maxRecDepth 16384

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring -/

/-- The right-hand neighbour. -/
def nxt (c : Dev nD) : Dev nD := ⟨(c.val + 1) % 4, Nat.mod_lt _ (by decide)⟩
/-- The left-hand neighbour. -/
def prv (c : Dev nD) : Dev nD := ⟨(c.val + 3) % 4, Nat.mod_lt _ (by decide)⟩
/-- The device opposite. -/
def dia (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem dia_nxt (c : Dev nD) : dia (nxt c) = prv c := by revert c; decide
theorem dia_prv (c : Dev nD) : dia (prv c) = nxt c := by revert c; decide
theorem prv_prv (c : Dev nD) : prv (prv c) = dia c := by revert c; decide
theorem nxt_nxt (c : Dev nD) : nxt (nxt c) = dia c := by revert c; decide

/-- One step round the ring is a permutation of the devices. -/
def ring : Dev nD ≃ Dev nD := ⟨nxt, prv, prv_nxt, nxt_prv⟩

/-- A device's four slots are all of them, each once. -/
theorem dev_cases (c j : Dev nD) : j = c ∨ j = prv c ∨ j = nxt c ∨ j = dia c := by revert c j; decide
theorem ne_prv (c : Dev nD) : c ≠ prv c := by revert c; decide
theorem ne_nxt (c : Dev nD) : c ≠ nxt c := by revert c; decide
theorem ne_dia (c : Dev nD) : c ≠ dia c := by revert c; decide
theorem prv_ne_nxt (c : Dev nD) : prv c ≠ nxt c := by revert c; decide
theorem prv_ne_dia (c : Dev nD) : prv c ≠ dia c := by revert c; decide
theorem nxt_ne_dia (c : Dev nD) : nxt c ≠ dia c := by revert c; decide

/-! ## The pieces -/

/-- Slot `j` of the query-weight buffer, and its first and second halves. -/
def qSlot (j : Dev nD) : Finset (S4x768x512.Idx) := Finset.univ.filter fun i => (i 0).val = j.val
def qLo (j : Dev nD) : Finset (S4x768x512.Idx) := (qSlot j).filter fun i => (i 1).val < 384
def qHi (j : Dev nD) : Finset (S4x768x512.Idx) := (qSlot j).filter fun i => ¬ (i 1).val < 384
/-- Slot `j` of the output-weight buffer, and its halves. -/
def oSlot (j : Dev nD) : Finset (S4x512x768.Idx) := Finset.univ.filter fun i => (i 0).val = j.val
def oLo (j : Dev nD) : Finset (S4x512x768.Idx) := (oSlot j).filter fun i => (i 1).val < 256
def oHi (j : Dev nD) : Finset (S4x512x768.Idx) := (oSlot j).filter fun i => ¬ (i 1).val < 256

theorem qLo_sub (j : Dev nD) : qLo j ⊆ qSlot j := Finset.filter_subset _ _
theorem qHi_sub (j : Dev nD) : qHi j ⊆ qSlot j := Finset.filter_subset _ _
theorem oLo_sub (j : Dev nD) : oLo j ⊆ oSlot j := Finset.filter_subset _ _
theorem oHi_sub (j : Dev nD) : oHi j ⊆ oSlot j := Finset.filter_subset _ _

theorem q_halves (j : Dev nD) : qLo j ∪ qHi j = qSlot j := Finset.filter_union_filter_not_eq _ _
theorem q_halves_disj (j : Dev nD) : Disjoint (qLo j) (qHi j) := Finset.disjoint_filter_filter_not _ _ _
theorem o_halves (j : Dev nD) : oLo j ∪ oHi j = oSlot j := Finset.filter_union_filter_not_eq _ _
theorem o_halves_disj (j : Dev nD) : Disjoint (oLo j) (oHi j) := Finset.disjoint_filter_filter_not _ _ _

theorem q_disj {j j' : Dev nD} (h : j ≠ j') : Disjoint (qSlot j) (qSlot j') :=
  Finset.disjoint_filter.mpr fun i _ h1 h2 => h (Fin.ext (h1.symm.trans h2))
theorem o_disj {j j' : Dev nD} (h : j ≠ j') : Disjoint (oSlot j) (oSlot j') :=
  Finset.disjoint_filter.mpr fun i _ h1 h2 => h (Fin.ext (h1.symm.trans h2))

theorem q_univ : (Finset.univ : Finset (Dev nD)).biUnion qSlot = Finset.univ := by
  ext i
  simp only [Finset.mem_biUnion, Finset.mem_univ, true_and, iff_true]
  exact ⟨⟨(i 0).val, (i 0).isLt⟩, Finset.mem_filter.mpr ⟨Finset.mem_univ _, rfl⟩⟩
theorem o_univ : (Finset.univ : Finset (Dev nD)).biUnion oSlot = Finset.univ := by
  ext i
  simp only [Finset.mem_biUnion, Finset.mem_univ, true_and, iff_true]
  exact ⟨⟨(i 0).val, (i 0).isLt⟩, Finset.mem_filter.mpr ⟨Finset.mem_univ _, rfl⟩⟩

/-! ## The pieces are what the printed slices address -/

abbrev qM : Memref sig .tc .vmem S4x768x512 .bf16 := Memref.whole cc0_scratch0
abbrev oM : Memref sig .tc .vmem S4x512x768 .bf16 := Memref.whole cc0_scratch1

/-- The whole slot `j`. -/
theorem set_qSlot {j : Dev nD} {o : Fin 3 → ℕ} (h : o = ![j.val, 0, 0]) (inb) :
    ((View.whole cc0_scratch0).slice (Rect.unit (s := S4x768x512) o S1x768x512.size inb)).set = qSlot j := by
  subst h
  ext i
  rw [View.set_slice_whole, Rect.mem_set_unit]
  unfold qSlot
  rw [Finset.mem_filter]
  have h1 : (i 1).val < 768 := (i 1).isLt
  have h2 : (i 2).val < 512 := (i 2).isLt
  constructor
  · intro h
    have h0 := h 0
    change j.val ≤ (i 0).val ∧ (i 0).val < j.val + 1 at h0
    exact ⟨Finset.mem_univ _, by omega⟩
  · rintro ⟨-, h0⟩ a
    match a with
    | 0 => show j.val ≤ (i 0).val ∧ (i 0).val < j.val + 1; omega
    | 1 => show 0 ≤ (i 1).val ∧ (i 1).val < 0 + 768; omega
    | 2 => show 0 ≤ (i 2).val ∧ (i 2).val < 0 + 512; omega

theorem set_qLo {j : Dev nD} {o : Fin 3 → ℕ} (h : o = ![j.val, 0, 0]) (inb) :
    ((View.whole cc0_scratch0).slice (Rect.unit (s := S4x768x512) o S1x384x512.size inb)).set = qLo j := by
  subst h
  ext i
  rw [View.set_slice_whole, Rect.mem_set_unit]
  unfold qLo qSlot
  rw [Finset.mem_filter, Finset.mem_filter]
  have h2 : (i 2).val < 512 := (i 2).isLt
  constructor
  · intro h
    have h0 := h 0
    have h1 := h 1
    change j.val ≤ (i 0).val ∧ (i 0).val < j.val + 1 at h0
    change 0 ≤ (i 1).val ∧ (i 1).val < 0 + 384 at h1
    exact ⟨⟨Finset.mem_univ _, by omega⟩, by omega⟩
  · rintro ⟨⟨-, h0⟩, h1⟩ a
    match a with
    | 0 => show j.val ≤ (i 0).val ∧ (i 0).val < j.val + 1; omega
    | 1 => show 0 ≤ (i 1).val ∧ (i 1).val < 0 + 384; omega
    | 2 => show 0 ≤ (i 2).val ∧ (i 2).val < 0 + 512; omega

theorem set_qHi {j : Dev nD} {o : Fin 3 → ℕ} (h : o = ![j.val, 384, 0]) (inb) :
    ((View.whole cc0_scratch0).slice (Rect.unit (s := S4x768x512) o S1x384x512.size inb)).set = qHi j := by
  subst h
  ext i
  rw [View.set_slice_whole, Rect.mem_set_unit]
  unfold qHi qSlot
  rw [Finset.mem_filter, Finset.mem_filter]
  have h1' : (i 1).val < 768 := (i 1).isLt
  have h2 : (i 2).val < 512 := (i 2).isLt
  constructor
  · intro h
    have h0 := h 0
    have h1 := h 1
    change j.val ≤ (i 0).val ∧ (i 0).val < j.val + 1 at h0
    change 384 ≤ (i 1).val ∧ (i 1).val < 384 + 384 at h1
    exact ⟨⟨Finset.mem_univ _, by omega⟩, by omega⟩
  · rintro ⟨⟨-, h0⟩, h1⟩ a
    match a with
    | 0 => show j.val ≤ (i 0).val ∧ (i 0).val < j.val + 1; omega
    | 1 => show 384 ≤ (i 1).val ∧ (i 1).val < 384 + 384; omega
    | 2 => show 0 ≤ (i 2).val ∧ (i 2).val < 0 + 512; omega

theorem set_oSlot {j : Dev nD} {o : Fin 3 → ℕ} (h : o = ![j.val, 0, 0]) (inb) :
    ((View.whole cc0_scratch1).slice (Rect.unit (s := S4x512x768) o S1x512x768.size inb)).set = oSlot j := by
  subst h
  ext i
  rw [View.set_slice_whole, Rect.mem_set_unit]
  unfold oSlot
  rw [Finset.mem_filter]
  have h1 : (i 1).val < 512 := (i 1).isLt
  have h2 : (i 2).val < 768 := (i 2).isLt
  constructor
  · intro h
    have h0 := h 0
    change j.val ≤ (i 0).val ∧ (i 0).val < j.val + 1 at h0
    exact ⟨Finset.mem_univ _, by omega⟩
  · rintro ⟨-, h0⟩ a
    match a with
    | 0 => show j.val ≤ (i 0).val ∧ (i 0).val < j.val + 1; omega
    | 1 => show 0 ≤ (i 1).val ∧ (i 1).val < 0 + 512; omega
    | 2 => show 0 ≤ (i 2).val ∧ (i 2).val < 0 + 768; omega

theorem set_oLo {j : Dev nD} {o : Fin 3 → ℕ} (h : o = ![j.val, 0, 0]) (inb) :
    ((View.whole cc0_scratch1).slice (Rect.unit (s := S4x512x768) o S1x256x768.size inb)).set = oLo j := by
  subst h
  ext i
  rw [View.set_slice_whole, Rect.mem_set_unit]
  unfold oLo oSlot
  rw [Finset.mem_filter, Finset.mem_filter]
  have h2 : (i 2).val < 768 := (i 2).isLt
  constructor
  · intro h
    have h0 := h 0
    have h1 := h 1
    change j.val ≤ (i 0).val ∧ (i 0).val < j.val + 1 at h0
    change 0 ≤ (i 1).val ∧ (i 1).val < 0 + 256 at h1
    exact ⟨⟨Finset.mem_univ _, by omega⟩, by omega⟩
  · rintro ⟨⟨-, h0⟩, h1⟩ a
    match a with
    | 0 => show j.val ≤ (i 0).val ∧ (i 0).val < j.val + 1; omega
    | 1 => show 0 ≤ (i 1).val ∧ (i 1).val < 0 + 256; omega
    | 2 => show 0 ≤ (i 2).val ∧ (i 2).val < 0 + 768; omega

theorem set_oHi {j : Dev nD} {o : Fin 3 → ℕ} (h : o = ![j.val, 256, 0]) (inb) :
    ((View.whole cc0_scratch1).slice (Rect.unit (s := S4x512x768) o S1x256x768.size inb)).set = oHi j := by
  subst h
  ext i
  rw [View.set_slice_whole, Rect.mem_set_unit]
  unfold oHi oSlot
  rw [Finset.mem_filter, Finset.mem_filter]
  have h1' : (i 1).val < 512 := (i 1).isLt
  have h2 : (i 2).val < 768 := (i 2).isLt
  constructor
  · intro h
    have h0 := h 0
    have h1 := h 1
    change j.val ≤ (i 0).val ∧ (i 0).val < j.val + 1 at h0
    change 256 ≤ (i 1).val ∧ (i 1).val < 256 + 256 at h1
    exact ⟨⟨Finset.mem_univ _, by omega⟩, by omega⟩
  · rintro ⟨⟨-, h0⟩, h1⟩ a
    match a with
    | 0 => show j.val ≤ (i 0).val ∧ (i 0).val < j.val + 1; omega
    | 1 => show 256 ≤ (i 1).val ∧ (i 1).val < 256 + 256; omega
    | 2 => show 0 ≤ (i 2).val ∧ (i 2).val < 0 + 768; omega

/-! ## What a copy leaves -/

/-- A copy whose source and destination are the same piece of the same buffer on two devices leaves there what the
    source held. -/
theorem write_read_self {F : FTy → Type} {sp : Space} {s : Shape} {e : EltTy} (v : View sig .tc sp s e)
    (fd fs : v.ty.Contents (Elt F)) : ∀ i ∈ v.set, v.write (Elt F) fd (v.read (Elt F) fs) Finset.univ i = fs i := by
  intro i hi
  rw [View.write_read_eq_piecewise]
  exact Finset.piecewise_eq_of_mem _ _ _ hi

/-! ## The gathered contents -/

variable {F : FTy → Type} [FloatOps F]
variable (m : (ℓ : Loc nD τ sig) → Buf (Elt F) ℓ)

/-- Device `c`'s input blocks as the region stages them. -/
abbrev inX (c : Dev nD) : Vec F S2x512x768 .bf16 := iblk m c 0 t0_0
abbrev inQ (c : Dev nD) : Vec F S768x512 .bf16 := iblk m c 1 t0_0
abbrev inK (c : Dev nD) : Vec F S32x2x512x64 .bf16 := iblk m c 2 t0_0
abbrev inV (c : Dev nD) : Vec F S32x2x512x64 .bf16 := iblk m c 3 t0_0
abbrev inO (c : Dev nD) : Vec F S512x768 .bf16 := iblk m c 4 t0_0

/-- A row-and-column pair as an index of a one-slot block. -/
def slotIdxQ (i : S4x768x512.Idx) : S1x768x512.Idx := fun a => match a with | 0 => (0 : Fin 1) | 1 => i 1 | 2 => i 2
def slotIdxO (i : S4x512x768.Idx) : S1x512x768.Idx := fun a => match a with | 0 => (0 : Fin 1) | 1 => i 1 | 2 => i 2

/-- The query-weight buffer once gathered: slot `j` holds device `j`'s block. The same on every device. -/
def gQ : S4x768x512.Idx → Elt F .bf16 := fun i => k0_pay1 (inQ m (i 0)) (slotIdxQ i)
/-- The output-weight buffer once gathered. -/
def gO : S4x512x768.Idx → Elt F .bf16 := fun i => k0_pay2 (inO m (i 0)) (slotIdxO i)

/-- Slot `j` of the gathered query weights reads as device `j`'s block. -/
theorem read_gQ {j : Dev nD} {o : Fin 3 → ℕ} (h : o = ![j.val, 0, 0]) (inb) :
    ((View.whole cc0_scratch0).slice (Rect.unit (s := S4x768x512) o S1x768x512.size inb)).read (Elt F) (gQ m)
      = k0_pay1 (inQ m j) := by
  subst h
  funext x
  rw [View.read_apply]
  show gQ m (((View.whole cc0_scratch0).slice (Rect.unit (s := S4x768x512) ![j.val, 0, 0] S1x768x512.size inb)).emb x) = _
  unfold gQ
  have e0 : (((View.whole cc0_scratch0).slice (Rect.unit (s := S4x768x512) ![j.val, 0, 0] S1x768x512.size inb)).emb x) 0 = j := by
    apply Fin.ext
    show j.val + 1 * (x 0).val = j.val
    have h0 : (x 0).val < 1 := (x 0).isLt
    omega
  have e1 : slotIdxQ (((View.whole cc0_scratch0).slice (Rect.unit (s := S4x768x512) ![j.val, 0, 0] S1x768x512.size inb)).emb x) = x := by
    funext a
    match a with
    | 0 => exact Subsingleton.elim (α := Fin 1) _ _
    | 1 => apply Fin.ext; show 0 + 1 * (x 1).val = (x 1).val; omega
    | 2 => apply Fin.ext; show 0 + 1 * (x 2).val = (x 2).val; omega
  rw [e0, e1]

theorem read_gO {j : Dev nD} {o : Fin 3 → ℕ} (h : o = ![j.val, 0, 0]) (inb) :
    ((View.whole cc0_scratch1).slice (Rect.unit (s := S4x512x768) o S1x512x768.size inb)).read (Elt F) (gO m)
      = k0_pay2 (inO m j) := by
  subst h
  funext x
  rw [View.read_apply]
  show gO m (((View.whole cc0_scratch1).slice (Rect.unit (s := S4x512x768) ![j.val, 0, 0] S1x512x768.size inb)).emb x) = _
  unfold gO
  have e0 : (((View.whole cc0_scratch1).slice (Rect.unit (s := S4x512x768) ![j.val, 0, 0] S1x512x768.size inb)).emb x) 0 = j := by
    apply Fin.ext
    show j.val + 1 * (x 0).val = j.val
    have h0 : (x 0).val < 1 := (x 0).isLt
    omega
  have e1 : slotIdxO (((View.whole cc0_scratch1).slice (Rect.unit (s := S4x512x768) ![j.val, 0, 0] S1x512x768.size inb)).emb x) = x := by
    funext a
    match a with
    | 0 => exact Subsingleton.elim (α := Fin 1) _ _
    | 1 => apply Fin.ext; show 0 + 1 * (x 1).val = (x 1).val; omega
    | 2 => apply Fin.ext; show 0 + 1 * (x 2).val = (x 2).val; omega
  rw [e0, e1]

/-- Storing device `j`'s block in slot `j` leaves the gathered contents there. -/
theorem store_gQ {j : Dev nD} {o : Fin 3 → ℕ} (h : o = ![j.val, 0, 0]) (inb) (f : S4x768x512.Idx → Elt F .bf16) :
    ∀ i ∈ qSlot j, ((View.whole cc0_scratch0).slice (Rect.unit (s := S4x768x512) o S1x768x512.size inb)).write (Elt F) f
      (k0_pay1 (inQ m j)) Finset.univ i = gQ m i := by
  intro i hi
  rw [← read_gQ m h inb]
  have hs := set_qSlot h inb
  have hi' : i ∈ ((View.whole cc0_scratch0).slice (Rect.unit (s := S4x768x512) o S1x768x512.size inb)).set := by rw [hs]; exact hi
  exact write_read_self ((View.whole cc0_scratch0).slice (Rect.unit (s := S4x768x512) o S1x768x512.size inb)) f (gQ m) i hi'
theorem store_gO {j : Dev nD} {o : Fin 3 → ℕ} (h : o = ![j.val, 0, 0]) (inb) (f : S4x512x768.Idx → Elt F .bf16) :
    ∀ i ∈ oSlot j, ((View.whole cc0_scratch1).slice (Rect.unit (s := S4x512x768) o S1x512x768.size inb)).write (Elt F) f
      (k0_pay2 (inO m j)) Finset.univ i = gO m i := by
  intro i hi
  rw [← read_gO m h inb]
  have hs := set_oSlot h inb
  have hi' : i ∈ ((View.whole cc0_scratch1).slice (Rect.unit (s := S4x512x768) o S1x512x768.size inb)).set := by rw [hs]; exact hi
  exact write_read_self ((View.whole cc0_scratch1).slice (Rect.unit (s := S4x512x768) o S1x512x768.size inb)) f (gO m) i hi'

end Cert.RingAttn

end
-- ==== Proof.Protocol.lean ====
/-
# The protocol: cells, duties, payloads, levels

Every device has one barrier cell, eight send cells and eight receive cells, each used once.

A device's signal to its left neighbour hands over the pieces that neighbour will write here: its slot and the
first half of the slot of the device opposite; the signal to the right neighbour hands over that neighbour's slot
and the second half. A receive cell gives back the piece just written, holding the gathered contents; a send cell
gives back the share of the source the copy read.

The eight copies of a device, by number: 0 and 1 its own query and output weights to the right, 2 and 3 the same
to the left, 4 and 5 the first halves of the left neighbour's weights to the right, 6 and 7 the second halves of
the right neighbour's weights to the left.
-/
module

public import proofs.«01_k».proof.Proof.Geometry

@[expose] public section

set_option maxRecDepth 16384

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging cells' copy of the rounds algebra, and the protocol's, whose duties are named by a Boolean. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barS : Sem sig := barrier0
/-- The send and the receive semaphore of copy `k`. -/
abbrev sendS (k : Fin 8) : DmaSem sig := ⟨6 + k.val, Nat.lt_of_lt_of_le (Nat.add_lt_add_left k.isLt 6) (by decide)⟩
abbrev recvS (k : Fin 8) : DmaSem sig := ⟨14 + k.val, Nat.lt_of_lt_of_le (Nat.add_lt_add_left k.isLt 14) (by decide)⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The device copy `k` of device `c` goes to, and the one copy `k` into `c` comes from. -/
def tgt (k : Fin 8) (c : Dev nD) : Dev nD := match k with
  | 0 => nxt c | 1 => nxt c | 2 => prv c | 3 => prv c | 4 => nxt c | 5 => nxt c | 6 => prv c | 7 => prv c
def org (k : Fin 8) (c : Dev nD) : Dev nD := match k with
  | 0 => prv c | 1 => prv c | 2 => nxt c | 3 => nxt c | 4 => prv c | 5 => prv c | 6 => nxt c | 7 => nxt c
theorem tgt_org (k : Fin 8) (c : Dev nD) : tgt k (org k c) = c := by revert k c; decide
theorem org_tgt (k : Fin 8) (c : Dev nD) : org k (tgt k c) = c := by revert k c; decide

/-- The credit a copy's completion is worth: by the shape of the piece. -/
def amt (k : Fin 8) : ℕ := match k with
  | 0 => cc0_scratch0.dmaCredit S1x768x512 .bf16 | 1 => cc0_scratch1.dmaCredit S1x512x768 .bf16
  | 2 => cc0_scratch0.dmaCredit S1x768x512 .bf16 | 3 => cc0_scratch1.dmaCredit S1x512x768 .bf16
  | 4 => cc0_scratch0.dmaCredit S1x384x512 .bf16 | 5 => cc0_scratch1.dmaCredit S1x256x768 .bf16
  | 6 => cc0_scratch0.dmaCredit S1x384x512 .bf16 | 7 => cc0_scratch1.dmaCredit S1x256x768 .bf16
theorem amt_pos (k : Fin 8) : 0 < amt k := by
  unfold amt
  split <;> exact sig.dmaCredit_pos _ _ _ _ _ (by decide)

/-! ## Pieces held -/

abbrev qPts (c : Dev nD) (S : Finset (S4x768x512.Idx)) (q : PosShare TreeShare) (f : S4x768x512.Idx → Elt F .bf16) : sProp 𝕄 :=
  ((c : Thread nD τ).loc cc0_scratch0) ↦[S]{q} f
abbrev oPts (c : Dev nD) (S : Finset (S4x512x768.Idx)) (q : PosShare TreeShare) (f : S4x512x768.Idx → Elt F .bf16) : sProp 𝕄 :=
  ((c : Thread nD τ).loc cc0_scratch1) ↦[S]{q} f

/-- A piece at contents not chosen. -/
abbrev qAny (c : Dev nD) (S : Finset (S4x768x512.Idx)) : sProp 𝕄 := iprop(∃ f, qPts c S fullShare f)
abbrev oAny (c : Dev nD) (S : Finset (S4x512x768.Idx)) : sProp 𝕄 := iprop(∃ f, oPts c S fullShare f)

/-- The three shares of a device's own slot: one for each copy reading it, one for its own loads. -/
abbrev shR : PosShare TreeShare := fullShare.left
abbrev shL : PosShare TreeShare := fullShare.right.left
abbrev shK : PosShare TreeShare := fullShare.right.right

/-- What copy `k` into device `c` leaves there. -/
def recvPay (c : Dev nD) (k : Fin 8) : sProp 𝕄 := match k with
  | 0 => qPts c (qSlot (prv c)) fullShare (gQ m) | 1 => oPts c (oSlot (prv c)) fullShare (gO m)
  | 2 => qPts c (qSlot (nxt c)) fullShare (gQ m) | 3 => oPts c (oSlot (nxt c)) fullShare (gO m)
  | 4 => qPts c (qLo (dia c)) fullShare (gQ m) | 5 => oPts c (oLo (dia c)) fullShare (gO m)
  | 6 => qPts c (qHi (dia c)) fullShare (gQ m) | 7 => oPts c (oHi (dia c)) fullShare (gO m)

/-- What copy `k` of device `c` reads, at the share it reads it at. -/
def sendPay (c : Dev nD) (k : Fin 8) : sProp 𝕄 := match k with
  | 0 => qPts c (qSlot c) shR (gQ m) | 1 => oPts c (oSlot c) shR (gO m)
  | 2 => qPts c (qSlot c) shL (gQ m) | 3 => oPts c (oSlot c) shL (gO m)
  | 4 => qPts c (qLo (prv c)) shR (gQ m) | 5 => oPts c (oLo (prv c)) shR (gO m)
  | 6 => qPts c (qHi (nxt c)) shR (gQ m) | 7 => oPts c (oHi (nxt c)) shR (gO m)

/-- What `c`'s right neighbour hands it with its signal: the pieces there that `c` writes, and that the cells of
    those four copies are in use. -/
def barPayR (c : Dev nD) : sProp 𝕄 :=
  iprop(qAny (nxt c) (qSlot c) ∗ oAny (nxt c) (oSlot c) ∗ qAny (nxt c) (qLo (prv c)) ∗ oAny (nxt c) (oLo (prv c))
    ∗ reached ER (recvCell (nxt c) 0) 0 ∗ reached ER (recvCell (nxt c) 1) 0 ∗ reached ER (recvCell (nxt c) 4) 0 ∗ reached ER (recvCell (nxt c) 5) 0)
/-- What its left neighbour hands it. -/
def barPayL (c : Dev nD) : sProp 𝕄 :=
  iprop(qAny (prv c) (qSlot c) ∗ oAny (prv c) (oSlot c) ∗ qAny (prv c) (qHi (nxt c)) ∗ oAny (prv c) (oHi (nxt c))
    ∗ reached ER (recvCell (prv c) 2) 0 ∗ reached ER (recvCell (prv c) 3) 0 ∗ reached ER (recvCell (prv c) 6) 0 ∗ reached ER (recvCell (prv c) 7) 0)

/-! ## The schedule -/

/-- A DMA semaphore as a copy's number on the sending or the receiving side. -/
def sideOf (q : DmaSem sig) : Option (Bool × Fin 8) :=
  if h : 6 ≤ q.val ∧ q.val < 14 then some (false, ⟨q.val - 6, by omega⟩)
  else if h : 14 ≤ q.val ∧ q.val < 22 then some (true, ⟨q.val - 14, by omega⟩) else none
theorem sideOf_send (k : Fin 8) : sideOf (sendS k) = some (false, k) := by revert k; decide
theorem sideOf_recv (k : Fin 8) : sideOf (recvS k) = some (true, k) := by revert k; decide

def dutiesAt (s : SemLoc sig) : Finset Bool := match s with
  | .reg _ => Finset.univ
  | .dma q => if (sideOf q).isSome then {false} else ∅
def amountAt (s : SemLoc sig) : ℕ := match s with
  | .reg _ => 1
  | .dma q => match sideOf q with | some (_, k) => amt k | none => 1
def payloadAt (c : Dev nD) (s : SemLoc sig) (d : Bool) : sProp 𝕄 := match s with
  | .reg _ => if d then barPayR c else barPayL c
  | .dma q => match sideOf q with | some (true, k) => recvPay m c k | some (false, k) => sendPay m c k | none => iprop(emp)

/-- One round: the duties `true` and `false` on each barrier cell, paid by the right and the left neighbour, and one
    duty on each send and receive cell. -/
def talkRd : Rounds.Schedule (GSem nD τ sig) Bool 𝕄 where
  duties g r := if r = 0 ∧ g.1.2 = .tc then dutiesAt g.2 else ∅
  unitless _ := False
  amount g _ _ := amountAt g.2
  payload g _ d := payloadAt m g.1.1 g.2 d
  amount_pos g _ _ _ := by
    unfold amountAt
    split
    · exact Nat.one_pos
    · split
      · exact amt_pos _
      · exact Nat.one_pos

instance recvPay_storable (c : Dev nD) (k : Fin 8) : BI.Storable (upEmb : UEmb _ 𝕄) (recvPay (F := F) m c k) := by
  unfold recvPay; split <;> infer_instance
instance sendPay_storable (c : Dev nD) (k : Fin 8) : BI.Storable (upEmb : UEmb _ 𝕄) (sendPay (F := F) m c k) := by
  unfold sendPay; split <;> infer_instance
instance barPayR_storable (c : Dev nD) : BI.Storable (upEmb : UEmb _ 𝕄) (barPayR (F := F) c) := by
  unfold barPayR; infer_instance
instance barPayL_storable (c : Dev nD) : BI.Storable (upEmb : UEmb _ 𝕄) (barPayL (F := F) c) := by
  unfold barPayL; infer_instance

instance talkRd_payload_storable (g : GSem nD τ sig) (r : ℕ) (d : Bool) :
    BI.Storable (upEmb : UEmb _ 𝕄) ((talkRd (F := F) m).payload g r d) := by
  show BI.Storable upEmb (payloadAt m g.1.1 g.2 d)
  unfold payloadAt
  (repeat' split) <;> infer_instance

section Tables

variable (c : Dev nD) (k : Fin 8)

theorem duties_bar : (talkRd (F := F) m).duties (barCell c) 0 = Finset.univ := by
  dsimp only [talkRd]; exact if_pos ⟨rfl, rfl⟩
theorem duties_send : (talkRd (F := F) m).duties (sendCell c k) 0 = {false} := by
  dsimp only [talkRd]
  rw [if_pos ⟨rfl, rfl⟩]
  show (if (sideOf (sendS k)).isSome then ({false} : Finset Bool) else ∅) = _
  rw [sideOf_send]; rfl
theorem duties_recv : (talkRd (F := F) m).duties (recvCell c k) 0 = {false} := by
  dsimp only [talkRd]
  rw [if_pos ⟨rfl, rfl⟩]
  show (if (sideOf (recvS k)).isSome then ({false} : Finset Bool) else ∅) = _
  rw [sideOf_recv]; rfl
theorem duties_later (g : GSem nD τ sig) : ∀ r, 1 ≤ r → (talkRd (F := F) m).duties g r = ∅ :=
  fun r hr => by dsimp only [talkRd]; exact if_neg fun h => by omega

theorem amount_bar (d : Bool) : (talkRd (F := F) m).amount (barCell c) 0 d = 1 := rfl
theorem amount_send (d : Bool) : (talkRd (F := F) m).amount (sendCell c k) 0 d = amt k := by
  show (match sideOf (sendS k) with | some (_, k) => amt k | none => 1) = _
  rw [sideOf_send]
theorem amount_recv (d : Bool) : (talkRd (F := F) m).amount (recvCell c k) 0 d = amt k := by
  show (match sideOf (recvS k) with | some (_, k) => amt k | none => 1) = _
  rw [sideOf_recv]

theorem payload_bar_true : (talkRd (F := F) m).payload (barCell c) 0 true = barPayR c := rfl
theorem payload_bar_false : (talkRd (F := F) m).payload (barCell c) 0 false = barPayL c := rfl
theorem payload_send (d : Bool) : (talkRd (F := F) m).payload (sendCell c k) 0 d = sendPay m c k := by
  show (match sideOf (sendS k) with | some (true, k) => recvPay m c k | some (false, k) => sendPay m c k | none => iprop(emp)) = _
  rw [sideOf_send]
theorem payload_recv (d : Bool) : (talkRd (F := F) m).payload (recvCell c k) 0 d = recvPay m c k := by
  show (match sideOf (recvS k) with | some (true, k) => recvPay m c k | some (false, k) => sendPay m c k | none => iprop(emp)) = _
  rw [sideOf_recv]

theorem expect_bar : (talkRd (F := F) m).expect (barCell c) 0 = 2 := by
  unfold Schedule.expect Schedule.amountOf; rw [duties_bar]; rfl
theorem expect_send : (talkRd (F := F) m).expect (sendCell c k) 0 = amt k := by
  unfold Schedule.expect Schedule.amountOf; rw [duties_send, Finset.sum_singleton, amount_send]
theorem expect_recv : (talkRd (F := F) m).expect (recvCell c k) 0 = amt k := by
  unfold Schedule.expect Schedule.amountOf; rw [duties_recv, Finset.sum_singleton, amount_recv]

theorem rest_bar : bigSep ((talkRd (F := F) m).duties (barCell c) 0 \ ∅) (fun u => (talkRd (F := F) m).payload (barCell c) 0 u)
    = iprop(barPayL c ∗ barPayR c) := by
  rw [Finset.sdiff_empty, duties_bar, bigSep_univ_eq_bigSepL [false, true] (by decide) (by decide)]
  rfl
theorem rest_send : bigSep ((talkRd (F := F) m).duties (sendCell c k) 0 \ ∅) (fun u => (talkRd (F := F) m).payload (sendCell c k) 0 u) = sendPay m c k := by
  rw [Finset.sdiff_empty, duties_send, bigSep_singleton, payload_send]
theorem rest_recv : bigSep ((talkRd (F := F) m).duties (recvCell c k) 0 \ ∅) (fun u => (talkRd (F := F) m).payload (recvCell c k) 0 u) = recvPay m c k := by
  rw [Finset.sdiff_empty, duties_recv, bigSep_singleton, payload_recv]

end Tables

/-! ## What a device owes, and the levels -/

/-- The cells device `c` still has to credit, the last one first: its eight copies' receive cells at the targets, then
    the two neighbours' barriers. -/
def payCell (c : Dev nD) : ℕ → GSem nD τ sig
  | 0 => recvCell (tgt 7 c) 7 | 1 => recvCell (tgt 6 c) 6 | 2 => recvCell (tgt 5 c) 5 | 3 => recvCell (tgt 4 c) 4
  | 4 => recvCell (tgt 3 c) 3 | 5 => recvCell (tgt 2 c) 2 | 6 => recvCell (tgt 1 c) 1 | 7 => recvCell (tgt 0 c) 0
  | 8 => barCell (nxt c) | _ => barCell (prv c)
def payAmt : ℕ → ℕ
  | 0 => amt 7 | 1 => amt 6 | 2 => amt 5 | 3 => amt 4 | 4 => amt 3 | 5 => amt 2 | 6 => amt 1 | 7 => amt 0 | _ => 1

/-- What it owes with `n` of the ten payments left. -/
def owed (c : Dev nD) : ℕ → CellTallies nD τ sig Unit
  | 0 => 0
  | n + 1 => owed c n + tallyAt (payCell c n) () (payAmt n)
abbrev O₀ (c : Dev nD) : CellTallies nD τ sig Unit := owed c 10

theorem owed_succ (c : Dev nD) (n : ℕ) : owed c (n + 1) = owed c n + tallyAt (payCell c n) () (payAmt n) := rfl

theorem owed_pos {c : Dev nD} {g : GSem nD τ sig} {u : Unit} : ∀ {n : ℕ}, 0 < owed c n g u → ∃ i, i < n ∧ g = payCell c i := by
  intro n
  induction n with
  | zero => intro h; exact absurd h (Nat.lt_irrefl 0)
  | succ n ih =>
    intro h
    rw [owed_succ, Pi.add_apply, Finsupp.add_apply] at h
    rcases Nat.add_pos_iff_pos_or_pos.mp h with h | h
    · obtain ⟨i, hi, rfl⟩ := ih h; exact ⟨i, by omega, rfl⟩
    · rw [tallyAt_apply] at h
      split at h
      · next hg => exact ⟨n, by omega, hg.1⟩
      · exact absurd h (Nat.lt_irrefl 0)

def L (g : GSem nD τ sig) : Finset Unit := if g.1.2 = .tc then {()} else ∅
/-- A cell's level: the barrier below the receive cells of the first four copies, those below the others; every other
    cell at zero. -/
def lvAt (s : SemLoc sig) : ℕ := match s with
  | .reg _ => 1
  | .dma q => if q.val < 14 then 0 else if q.val < 18 then 2 else 3
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem pay_L (c : Dev nD) (i : ℕ) (u : Unit) : u ∈ L (payCell c i) := by
  have h : (payCell c i).1.2 = .tc := by unfold payCell; split <;> rfl
  unfold L; rw [if_pos h]; exact Finset.mem_singleton_self _
/-- The level of the `i`-th cell to be paid, the last one first. -/
def payLv : ℕ → ℕ
  | 0 => 3 | 1 => 3 | 2 => 3 | 3 => 3 | 4 => 2 | 5 => 2 | 6 => 2 | 7 => 2 | _ => 1
theorem lv_pay (c : Dev nD) : ∀ i : ℕ, lvAt (payCell c i).2 = payLv i
  | 0 => rfl | 1 => rfl | 2 => rfl | 3 => rfl | 4 => rfl | 5 => rfl | 6 => rfl | 7 => rfl | 8 => rfl | _ + 9 => rfl
theorem pay_lv (c : Dev nD) (i : ℕ) : 0 < lvAt (payCell c i).2 := by
  rw [lv_pay]; unfold payLv; split <;> decide
theorem pay_lv_recv (c : Dev nD) (i : ℕ) (h : i < 8) : 1 < lvAt (payCell c i).2 := by
  rw [lv_pay]; revert h; revert i; decide
theorem pay_lv_fwd (c : Dev nD) (i : ℕ) (h : i < 4) : 2 < lvAt (payCell c i).2 := by
  rw [lv_pay]; revert h; revert i; decide

/-- A wait below every cell still owed is allowed. -/
theorem mayWait_of (c : Dev nD) (s : SemLoc sig) (n : ℕ) (ℓ : ℕ) (hs : lvAt s ≤ ℓ) (h : ∀ i, i < n → ℓ < lvAt (payCell c i).2) :
    (levAts L lv : sProp 𝕄) ⊢ MayWait (c : Thread nD τ) s () (owed c n) :=
  MayOwe.of_cut (L := L) (lev := lv) ℓ
    (fun p hp => by rw [Finset.mem_singleton.mp hp, L_tc]; exact Finset.mem_singleton_self _)
    (fun g u hg => by obtain ⟨i, -, rfl⟩ := owed_pos hg; exact pay_L c i u)
    (fun p hp => by rw [Finset.mem_singleton.mp hp]; exact hs)
    (fun g u hg => by obtain ⟨i, hi, rfl⟩ := owed_pos hg; exact h i hi)

theorem mayWait_bar (c : Dev nD) : (levAts L lv : sProp 𝕄) ⊢ MayWait (c : Thread nD τ) (.reg barS) () (owed c 8) :=
  mayWait_of c _ 8 1 (le_refl 1) (pay_lv_recv c)
theorem mayWait_recv (c : Dev nD) (k : Fin 8) (hk : k.val < 4) (n : ℕ) (hn : n ≤ 4) :
    (levAts L lv : sProp 𝕄) ⊢ MayWait (c : Thread nD τ) (.dma (recvS k)) () (owed c n) :=
  mayWait_of c _ n 2 (by revert hk; revert k; decide) fun i hi => pay_lv_fwd c i (by omega)

/-! ## The protocol's ghost state -/

/-- The cells, each device's sixteen copies' cells numbered: the eight send cells, then the eight receive cells. -/
abbrev osem : Fin 16 → SemLoc sig := fun k => .dma ⟨6 + k.val, Nat.lt_of_lt_of_le (Nat.add_lt_add_left k.isLt 6) (by decide)⟩
theorem osem_inj : Function.Injective osem := by decide
theorem osem_ne_bar : ∀ k : Fin 16, osem k ≠ .reg barS := fun k h => by cases h

def barEmb : Dev nD ↪ GSem nD τ sig := ⟨fun c => barCell c, fun _ _ h => congrArg (fun g : GSem nD τ sig => g.1.1) h⟩
def scEmb : Dev nD × Fin 16 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem send_mem (c : Dev nD) (k : Fin 8) : sendCell c k ∈ (barCells ∪ scCells : Finset (GSem nD τ sig)) :=
  Finset.mem_union_right _ (Finset.mem_map_of_mem scEmb (Finset.mem_univ ((c, ⟨k.val, by omega⟩) : Dev nD × Fin 16)))
theorem recv_mem (c : Dev nD) (k : Fin 8) : recvCell c k ∈ (barCells ∪ scCells : Finset (GSem nD τ sig)) := by
  have h := Finset.mem_map_of_mem scEmb (Finset.mem_univ ((c, ⟨8 + k.val, by omega⟩) : Dev nD × Fin 16))
  have e : scEmb (c, ⟨8 + k.val, by omega⟩) = recvCell c k := by
    show ((c : Thread nD τ), SemLoc.dma (⟨6 + (8 + k.val), _⟩ : DmaSem sig)) = ((c : Thread nD τ), SemLoc.dma (⟨14 + k.val, _⟩ : DmaSem sig))
    congr 3; omega
  rw [e] at h
  exact Finset.mem_union_right _ h

/-- The records every device may consult: every cell's invariant, and that round 0 of every barrier cell is reached. -/
def records (κ : GSem nD τ sig → ℕ) : sProp 𝕄 :=
  iprop((bigSep (barCells ∪ scCells) fun g => cellInv ER (talkRd m) (κ g) g) ∗ bigSep barCells fun g => reached ER g 0)

instance records_persistent (κ : GSem nD τ sig → ℕ) : BI.Persistent (records (F := F) m κ) := by unfold records; infer_instance

theorem inv_at (κ : GSem nD τ sig → ℕ) {g : GSem nD τ sig} (hg : g ∈ (barCells ∪ scCells : Finset (GSem nD τ sig))) :
    (records m κ : sProp 𝕄) ⊢ cellInv ER (talkRd m) (κ g) g := by
  have h : (bigSep (barCells ∪ scCells) fun g => (cellInv ER (talkRd m) (κ g) g : sProp 𝕄)) ⊢ cellInv ER (talkRd m) (κ g) g := bigSep_elim hg
  unfold records
  iintro ⟨HI, -⟩
  iapply h $$ HI
theorem reached_at (κ : GSem nD τ sig → ℕ) (c : Dev nD) : (records m κ : sProp 𝕄) ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, HI⟩
  iapply h $$ HI

/-- The tokens of the duties device `c` pays. -/
def payToks (c : Dev nD) : sProp 𝕄 :=
  iprop(dutyTok ER (barCell (prv c)) 0 true ∗ dutyTok ER (barCell (nxt c)) 0 false
    ∗ (bigSep Finset.univ fun k : Fin 8 => dutyTok ER (sendCell c k) 0 false)
    ∗ bigSep Finset.univ fun k : Fin 8 => dutyTok ER (recvCell (tgt k c) k) 0 false)

/-- The credit it waits with. -/
def creds (c : Dev nD) : sProp 𝕄 :=
  iprop(cred (tallyAt (barCell c) () 2) ∗ bigSep Finset.univ fun k : Fin 8 => cred (tallyAt (recvCell c k) () (amt k)))

/-- Its positions once its cells are open, and that they are. -/
def opened (c : Dev nD) : sProp 𝕄 :=
  iprop((bigSep Finset.univ fun k : Fin 8 => iprop(atPos ER (sendCell c k) 0 ∅ 0 ∗ reached ER (sendCell c k) 0))
    ∗ bigSep Finset.univ fun k : Fin 8 => iprop(atPos ER (recvCell c k) 0 ∅ 0 ∗ reached ER (recvCell c k) 0))

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.RingAttn

end
-- ==== Proof.Steps.lean ====
/-
# The instructions of the body as steps on the pieces

One lemma for each kind of instruction the body is made of: a load of a slot, a load of a staged block, a store of the
own slot, a remote copy, a wait, a signal. Each is stated on the pieces of the two gathered buffers, so that the body's
run names pieces and never an index.
-/
module

public import proofs.«01_k».proof.Proof.Protocol

@[expose] public section

set_option maxRecDepth 16384

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A core's program run under the protocol, to a postcondition. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A whole buffer held on device `c`. -/
abbrev stgPts (c : Dev nD) (b : Ref sig .tc) (f : b.ty.Contents (Elt F)) : sProp 𝕄 := ((c : Thread nD τ).loc b) ↦{fullShare} f

variable {α : Type}

/-! ## Loads and stores -/

/-- A load of slot `j` of the gathered query weights. -/
theorem load_q {c j : Dev nD} {o : Fin 3 → ℕ} (h : o = ![j.val, 0, 0]) {inb} {hl : qM.view.LoadsAt (Rect.unit (s := S4x768x512) o S1x768x512.size inb).toLoadRect} {q : PosShare TreeShare}
    {k : Vec F S1x768x512 .bf16 → Prog (TpuEff nD τ sig (Elt F) Λ₀ .tc) α} {Q : α → sProp 𝕄} :
    qPts c (qSlot j) q (gQ m) ⊢ iprop((qPts c (qSlot j) q (gQ m) -∗ run c (k (k0_pay1 (inQ m j))) Q)
      -∗ run c (.op (.load qM (Rect.unit (s := S4x768x512) o S1x768x512.size inb).toLoadRect hl) k) Q) := by
  rw [← read_gQ m h inb]
  exact wp_load_rect 𝒱₀ (c : Thread nD τ) none Set.univ (m := qM) (r := Rect.unit (s := S4x768x512) o S1x768x512.size inb)
    (set_qSlot h inb).subset

/-- A load of slot `j` of the gathered output weights. -/
theorem load_o {c j : Dev nD} {o : Fin 3 → ℕ} (h : o = ![j.val, 0, 0]) {inb} {hl : oM.view.LoadsAt (Rect.unit (s := S4x512x768) o S1x512x768.size inb).toLoadRect} {q : PosShare TreeShare}
    {k : Vec F S1x512x768 .bf16 → Prog (TpuEff nD τ sig (Elt F) Λ₀ .tc) α} {Q : α → sProp 𝕄} :
    oPts c (oSlot j) q (gO m) ⊢ iprop((oPts c (oSlot j) q (gO m) -∗ run c (k (k0_pay2 (inO m j))) Q)
      -∗ run c (.op (.load oM (Rect.unit (s := S4x512x768) o S1x512x768.size inb).toLoadRect hl) k) Q) := by
  rw [← read_gO m h inb]
  exact wp_load_rect 𝒱₀ (c : Thread nD τ) none Set.univ (m := oM) (r := Rect.unit (s := S4x512x768) o S1x512x768.size inb)
    (set_oSlot h inb).subset

/-- A load of a slot whose value is not used. -/
theorem load_q_any {c j : Dev nD} {o : Fin 3 → ℕ} (h : o = ![j.val, 0, 0]) {inb} {hl : qM.view.LoadsAt (Rect.unit (s := S4x768x512) o S1x768x512.size inb).toLoadRect} {f : S4x768x512.Idx → Elt F .bf16}
    {k : Vec F S1x768x512 .bf16 → Prog (TpuEff nD τ sig (Elt F) Λ₀ .tc) α} {Q : α → sProp 𝕄} :
    qPts c (qSlot j) fullShare f ⊢ iprop((∀ v, qPts c (qSlot j) fullShare f -∗ run c (k v) Q)
      -∗ run c (.op (.load qM (Rect.unit (s := S4x768x512) o S1x768x512.size inb).toLoadRect hl) k) Q) := by
  iintro H Hk
  iapply (wp_load_rect 𝒱₀ (c : Thread nD τ) none Set.univ (m := qM) (r := Rect.unit (s := S4x768x512) o S1x768x512.size inb)
    (set_qSlot h inb).subset) $$ H
  iapply Hk
theorem load_o_any {c j : Dev nD} {o : Fin 3 → ℕ} (h : o = ![j.val, 0, 0]) {inb} {hl : oM.view.LoadsAt (Rect.unit (s := S4x512x768) o S1x512x768.size inb).toLoadRect} {f : S4x512x768.Idx → Elt F .bf16}
    {k : Vec F S1x512x768 .bf16 → Prog (TpuEff nD τ sig (Elt F) Λ₀ .tc) α} {Q : α → sProp 𝕄} :
    oPts c (oSlot j) fullShare f ⊢ iprop((∀ v, oPts c (oSlot j) fullShare f -∗ run c (k v) Q)
      -∗ run c (.op (.load oM (Rect.unit (s := S4x512x768) o S1x512x768.size inb).toLoadRect hl) k) Q) := by
  iintro H Hk
  iapply (wp_load_rect 𝒱₀ (c : Thread nD τ) none Set.univ (m := oM) (r := Rect.unit (s := S4x512x768) o S1x512x768.size inb)
    (set_oSlot h inb).subset) $$ H
  iapply Hk

/-- The store of the own block into the own slot. -/
theorem store_q {c j : Dev nD} {o : Fin 3 → ℕ} (h : o = ![j.val, 0, 0]) {inb} {hx : ((qM).access (Rect.unit (s := S4x768x512) o S1x768x512.size inb)).Stores Finset.univ} {hm : (Finset.univ : Finset (Rect.unit (s := S4x768x512) o S1x768x512.size inb).shape.Idx) = Finset.univ ∨ ∀ a, (Rect.unit (s := S4x768x512) o S1x768x512.size inb).stride a = 1}
    {f : S4x768x512.Idx → Elt F .bf16}
    {k : PUnit → Prog (TpuEff nD τ sig (Elt F) Λ₀ .tc) α} {Q : α → sProp 𝕄} :
    qPts c (qSlot j) fullShare f ⊢ iprop((qPts c (qSlot j) fullShare (gQ m) -∗ run c (k ⟨⟩) Q)
      -∗ run c (.op (.store qM (Rect.unit (s := S4x768x512) o S1x768x512.size inb) (k0_pay1 (inQ m j)) Finset.univ hx hm) k) Q) := by
  have e : (qPts c (qSlot j) fullShare (gQ m) : sProp 𝕄)
      = qPts c (qSlot j) fullShare (((View.whole cc0_scratch0).slice (Rect.unit (s := S4x768x512) o S1x768x512.size inb)).write (Elt F) f
          (k0_pay1 (inQ m j)) Finset.univ) := (pointsTo_congr (store_gQ m h inb f)).symm
  rw [e]
  exact wp_store 𝒱₀ (c : Thread nD τ) none Set.univ (m := qM) (r := Rect.unit (s := S4x768x512) o S1x768x512.size inb)
    ((View.setOn_univ _).trans (set_qSlot h inb)).subset
theorem store_o {c j : Dev nD} {o : Fin 3 → ℕ} (h : o = ![j.val, 0, 0]) {inb} {hx : ((oM).access (Rect.unit (s := S4x512x768) o S1x512x768.size inb)).Stores Finset.univ} {hm : (Finset.univ : Finset (Rect.unit (s := S4x512x768) o S1x512x768.size inb).shape.Idx) = Finset.univ ∨ ∀ a, (Rect.unit (s := S4x512x768) o S1x512x768.size inb).stride a = 1}
    {f : S4x512x768.Idx → Elt F .bf16}
    {k : PUnit → Prog (TpuEff nD τ sig (Elt F) Λ₀ .tc) α} {Q : α → sProp 𝕄} :
    oPts c (oSlot j) fullShare f ⊢ iprop((oPts c (oSlot j) fullShare (gO m) -∗ run c (k ⟨⟩) Q)
      -∗ run c (.op (.store oM (Rect.unit (s := S4x512x768) o S1x512x768.size inb) (k0_pay2 (inO m j)) Finset.univ hx hm) k) Q) := by
  have e : (oPts c (oSlot j) fullShare (gO m) : sProp 𝕄)
      = oPts c (oSlot j) fullShare (((View.whole cc0_scratch1).slice (Rect.unit (s := S4x512x768) o S1x512x768.size inb)).write (Elt F) f
          (k0_pay2 (inO m j)) Finset.univ) := (pointsTo_congr (store_gO m h inb f)).symm
  rw [e]
  exact wp_store 𝒱₀ (c : Thread nD τ) none Set.univ (m := oM) (r := Rect.unit (s := S4x512x768) o S1x512x768.size inb)
    ((View.setOn_univ _).trans (set_oSlot h inb)).subset

/-- Where row `i` of the eight heads of device `j` lies among all heads. -/
def headIdx (j : Dev nD) (i : S8x2x512x64.Idx) : S32x2x512x64.Idx := fun a => match a with
  | 0 => (⟨8 * j.val + (i 0).val, by have h1 : j.val < 4 := j.isLt; have h2 : (i 0).val < 8 := (i 0).isLt; change _ < 32; omega⟩ : Fin 32)
  | 1 => i 1 | 2 => i 2 | 3 => i 3
/-- The eight heads of device `j` out of all keys or values. -/
def headBlk (j : Dev nD) (a : Vec F S32x2x512x64 .bf16) : Vec F S8x2x512x64 .bf16 := fun i => a (headIdx j i)

theorem head_read {j : Dev nD} {o : Fin 4 → ℕ} (h : o = ![8 * j.val, 0, 0, 0]) (inb)
    (v : View sig .tc .vmem S32x2x512x64 .bf16) (f : v.ty.Contents (Elt F)) :
    (v.slice (Rect.unit (s := S32x2x512x64) o S8x2x512x64.size inb)).read (Elt F) f = headBlk j (v.read (Elt F) f) := by
  subst h
  funext x
  rw [View.read_apply]
  unfold headBlk
  rw [View.read_apply]
  have e : (v.slice (Rect.unit (s := S32x2x512x64) ![8 * j.val, 0, 0, 0] S8x2x512x64.size inb)).emb x = v.emb (headIdx j x) := by
    show v.emb _ = _
    congr 1
    funext a
    match a with
    | 0 => apply Fin.ext; show 8 * j.val + 1 * (x 0).val = 8 * j.val + (x 0).val; omega
    | 1 => apply Fin.ext; show 0 + 1 * (x 1).val = (x 1).val; omega
    | 2 => apply Fin.ext; show 0 + 1 * (x 2).val = (x 2).val; omega
    | 3 => apply Fin.ext; show 0 + 1 * (x 3).val = (x 3).val; omega
  show _root_.cast _ _ = _root_.cast _ _
  rw [e]

/-- A load of device `j`'s heads of the staged keys or values. -/
theorem load_k {c j : Dev nD} {o : Fin 4 → ℕ} (h : o = ![8 * j.val, 0, 0, 0]) {inb}
    {hl : (Memref.whole cc0_stg2_0 : Memref sig .tc .vmem S32x2x512x64 .bf16).view.LoadsAt (Rect.unit (s := S32x2x512x64) o S8x2x512x64.size inb).toLoadRect} {f : Vec F S32x2x512x64 .bf16}
    {k : Vec F S8x2x512x64 .bf16 → Prog (TpuEff nD τ sig (Elt F) Λ₀ .tc) α} {Q : α → sProp 𝕄} :
    stgPts c cc0_stg2_0 f ⊢ iprop((stgPts c cc0_stg2_0 f -∗ run c (k (headBlk j f)) Q)
      -∗ run c (.op (.load (Memref.whole cc0_stg2_0) (Rect.unit (s := S32x2x512x64) o S8x2x512x64.size inb).toLoadRect hl) k) Q) := by
  have e := head_read (F := F) h inb (View.whole cc0_stg2_0) f
  rw [View.read_whole] at e
  rw [← e]
  exact wp_load_rect 𝒱₀ (c : Thread nD τ) none Set.univ (m := Memref.whole cc0_stg2_0)
    (r := Rect.unit (s := S32x2x512x64) o S8x2x512x64.size inb) (Finset.subset_univ _)
theorem load_v {c j : Dev nD} {o : Fin 4 → ℕ} (h : o = ![8 * j.val, 0, 0, 0]) {inb}
    {hl : (Memref.whole cc0_stg3_0 : Memref sig .tc .vmem S32x2x512x64 .bf16).view.LoadsAt (Rect.unit (s := S32x2x512x64) o S8x2x512x64.size inb).toLoadRect} {f : Vec F S32x2x512x64 .bf16}
    {k : Vec F S8x2x512x64 .bf16 → Prog (TpuEff nD τ sig (Elt F) Λ₀ .tc) α} {Q : α → sProp 𝕄} :
    stgPts c cc0_stg3_0 f ⊢ iprop((stgPts c cc0_stg3_0 f -∗ run c (k (headBlk j f)) Q)
      -∗ run c (.op (.load (Memref.whole cc0_stg3_0) (Rect.unit (s := S32x2x512x64) o S8x2x512x64.size inb).toLoadRect hl) k) Q) := by
  have e := head_read (F := F) h inb (View.whole cc0_stg3_0) f
  rw [View.read_whole] at e
  rw [← e]
  exact wp_load_rect 𝒱₀ (c : Thread nD τ) none Set.univ (m := Memref.whole cc0_stg3_0)
    (r := Rect.unit (s := S32x2x512x64) o S8x2x512x64.size inb) (Finset.subset_univ _)

/-- A load of a whole staged block. -/
theorem load_x {c : Dev nD} {inb : ∀ a, ![0, 0, 0] a + S2x512x768.size a ≤ S2x512x768.size a}
    {hl : (Memref.whole cc0_stg0_0 : Memref sig .tc .vmem S2x512x768 .bf16).view.LoadsAt (Rect.unit (s := S2x512x768) ![0, 0, 0] S2x512x768.size inb).toLoadRect} {f : Vec F S2x512x768 .bf16}
    {k : Vec F S2x512x768 .bf16 → Prog (TpuEff nD τ sig (Elt F) Λ₀ .tc) α} {Q : α → sProp 𝕄} :
    stgPts c cc0_stg0_0 f ⊢ iprop((stgPts c cc0_stg0_0 f -∗ run c (k f) Q)
      -∗ run c (.op (.load (Memref.whole cc0_stg0_0) (Rect.unit (s := S2x512x768) ![0, 0, 0] S2x512x768.size inb).toLoadRect hl) k) Q) := by
  have e := Memref.readAt_unit_zero (Elt F) cc0_stg0_0 (off := ![0, 0, 0]) (by decide) inb f
  have w : ∀ f', ((Memref.whole cc0_stg0_0).access (Rect.unit (s := S2x512x768) ![0, 0, 0] S2x512x768.size inb)).read (Elt F) f = f' →
      (stgPts c cc0_stg0_0 f ⊢ iprop((stgPts c cc0_stg0_0 f -∗ run c (k f') Q)
        -∗ run c (.op (.load (Memref.whole cc0_stg0_0) (Rect.unit (s := S2x512x768) ![0, 0, 0] S2x512x768.size inb).toLoadRect hl) k) Q)) := by
    rintro _ rfl
    exact wp_load_rect 𝒱₀ (c : Thread nD τ) none Set.univ (m := Memref.whole cc0_stg0_0)
      (r := Rect.unit (s := S2x512x768) ![0, 0, 0] S2x512x768.size inb) (Finset.subset_univ _)
  exact w f e
theorem load_wq {c : Dev nD} {inb : ∀ a, ![0, 0] a + S768x512.size a ≤ S768x512.size a}
    {hl : (Memref.whole cc0_stg1_0 : Memref sig .tc .vmem S768x512 .bf16).view.LoadsAt (Rect.unit (s := S768x512) ![0, 0] S768x512.size inb).toLoadRect} {f : Vec F S768x512 .bf16}
    {k : Vec F S768x512 .bf16 → Prog (TpuEff nD τ sig (Elt F) Λ₀ .tc) α} {Q : α → sProp 𝕄} :
    stgPts c cc0_stg1_0 f ⊢ iprop((stgPts c cc0_stg1_0 f -∗ run c (k f) Q)
      -∗ run c (.op (.load (Memref.whole cc0_stg1_0) (Rect.unit (s := S768x512) ![0, 0] S768x512.size inb).toLoadRect hl) k) Q) := by
  have e := Memref.readAt_unit_zero (Elt F) cc0_stg1_0 (off := ![0, 0]) (by decide) inb f
  have w : ∀ f', ((Memref.whole cc0_stg1_0).access (Rect.unit (s := S768x512) ![0, 0] S768x512.size inb)).read (Elt F) f = f' →
      (stgPts c cc0_stg1_0 f ⊢ iprop((stgPts c cc0_stg1_0 f -∗ run c (k f') Q)
        -∗ run c (.op (.load (Memref.whole cc0_stg1_0) (Rect.unit (s := S768x512) ![0, 0] S768x512.size inb).toLoadRect hl) k) Q)) := by
    rintro _ rfl
    exact wp_load_rect 𝒱₀ (c : Thread nD τ) none Set.univ (m := Memref.whole cc0_stg1_0)
      (r := Rect.unit (s := S768x512) ![0, 0] S768x512.size inb) (Finset.subset_univ _)
  exact w f e
theorem load_wo {c : Dev nD} {inb : ∀ a, ![0, 0] a + S512x768.size a ≤ S512x768.size a}
    {hl : (Memref.whole cc0_stg4_0 : Memref sig .tc .vmem S512x768 .bf16).view.LoadsAt (Rect.unit (s := S512x768) ![0, 0] S512x768.size inb).toLoadRect} {f : Vec F S512x768 .bf16}
    {k : Vec F S512x768 .bf16 → Prog (TpuEff nD τ sig (Elt F) Λ₀ .tc) α} {Q : α → sProp 𝕄} :
    stgPts c cc0_stg4_0 f ⊢ iprop((stgPts c cc0_stg4_0 f -∗ run c (k f) Q)
      -∗ run c (.op (.load (Memref.whole cc0_stg4_0) (Rect.unit (s := S512x768) ![0, 0] S512x768.size inb).toLoadRect hl) k) Q) := by
  have e := Memref.readAt_unit_zero (Elt F) cc0_stg4_0 (off := ![0, 0]) (by decide) inb f
  have w : ∀ f', ((Memref.whole cc0_stg4_0).access (Rect.unit (s := S512x768) ![0, 0] S512x768.size inb)).read (Elt F) f = f' →
      (stgPts c cc0_stg4_0 f ⊢ iprop((stgPts c cc0_stg4_0 f -∗ run c (k f') Q)
        -∗ run c (.op (.load (Memref.whole cc0_stg4_0) (Rect.unit (s := S512x768) ![0, 0] S512x768.size inb).toLoadRect hl) k) Q)) := by
    rintro _ rfl
    exact wp_load_rect 𝒱₀ (c : Thread nD τ) none Set.univ (m := Memref.whole cc0_stg4_0)
      (r := Rect.unit (s := S512x768) ![0, 0] S512x768.size inb) (Finset.subset_univ _)
  exact w f e
theorem load_out {c : Dev nD} {inb : ∀ a, ![0, 0, 0] a + S2x512x768.size a ≤ S2x512x768.size a}
    {hl : (Memref.whole cc0_stg5_0 : Memref sig .tc .vmem S2x512x768 .f32).view.LoadsAt (Rect.unit (s := S2x512x768) ![0, 0, 0] S2x512x768.size inb).toLoadRect} {f : Vec F S2x512x768 .f32}
    {k : Vec F S2x512x768 .f32 → Prog (TpuEff nD τ sig (Elt F) Λ₀ .tc) α} {Q : α → sProp 𝕄} :
    stgPts c cc0_stg5_0 f ⊢ iprop((stgPts c cc0_stg5_0 f -∗ run c (k f) Q)
      -∗ run c (.op (.load (Memref.whole cc0_stg5_0) (Rect.unit (s := S2x512x768) ![0, 0, 0] S2x512x768.size inb).toLoadRect hl) k) Q) := by
  have e := Memref.readAt_unit_zero (Elt F) cc0_stg5_0 (off := ![0, 0, 0]) (by decide) inb f
  have w : ∀ f', ((Memref.whole cc0_stg5_0).access (Rect.unit (s := S2x512x768) ![0, 0, 0] S2x512x768.size inb)).read (Elt F) f = f' →
      (stgPts c cc0_stg5_0 f ⊢ iprop((stgPts c cc0_stg5_0 f -∗ run c (k f') Q)
        -∗ run c (.op (.load (Memref.whole cc0_stg5_0) (Rect.unit (s := S2x512x768) ![0, 0, 0] S2x512x768.size inb).toLoadRect hl) k) Q)) := by
    rintro _ rfl
    exact wp_load_rect 𝒱₀ (c : Thread nD τ) none Set.univ (m := Memref.whole cc0_stg5_0)
      (r := Rect.unit (s := S2x512x768) ![0, 0, 0] S2x512x768.size inb) (Finset.subset_univ _)
  exact w f e

/-- The store of the whole result block. -/
theorem store_out {c : Dev nD} {inb : ∀ a, ![0, 0, 0] a + S2x512x768.size a ≤ S2x512x768.size a} {w f : Vec F S2x512x768 .f32}
    {hx : ((Memref.whole cc0_stg5_0 : Memref sig .tc .vmem S2x512x768 .f32).access (Rect.unit (s := S2x512x768) ![0, 0, 0] S2x512x768.size inb)).Stores Finset.univ}
    {hm : (Finset.univ : Finset (Rect.unit (s := S2x512x768) ![0, 0, 0] S2x512x768.size inb).shape.Idx) = Finset.univ ∨ ∀ a, (Rect.unit (s := S2x512x768) ![0, 0, 0] S2x512x768.size inb).stride a = 1}
    {k : PUnit → Prog (TpuEff nD τ sig (Elt F) Λ₀ .tc) α} {Q : α → sProp 𝕄} :
    stgPts c cc0_stg5_0 f ⊢ iprop((stgPts c cc0_stg5_0 w -∗ run c (k ⟨⟩) Q)
      -∗ run c (.op (.store (Memref.whole cc0_stg5_0) (Rect.unit (s := S2x512x768) ![0, 0, 0] S2x512x768.size inb) w Finset.univ hx hm) k) Q) := by
  have e := Memref.write_access_unit_zero_univ (Elt F) cc0_stg5_0 (off := ![0, 0, 0]) (by decide) inb f w
  have h : ∀ f', ((Memref.whole cc0_stg5_0).access (Rect.unit (s := S2x512x768) ![0, 0, 0] S2x512x768.size inb)).write (Elt F) f w Finset.univ = f' →
      (stgPts c cc0_stg5_0 f ⊢ iprop((stgPts c cc0_stg5_0 f' -∗ run c (k ⟨⟩) Q)
        -∗ run c (.op (.store (Memref.whole cc0_stg5_0) (Rect.unit (s := S2x512x768) ![0, 0, 0] S2x512x768.size inb) w Finset.univ hx hm) k) Q)) := by
    rintro _ rfl
    exact wp_store 𝒱₀ (c : Thread nD τ) none Set.univ (m := Memref.whole cc0_stg5_0)
      (r := Rect.unit (s := S2x512x768) ![0, 0, 0] S2x512x768.size inb) (Finset.subset_univ _)
  exact h w e

/-! ## Signals, copies and waits -/

/-- A copy between the same piece of two devices, numbered `k`: paid with the share of the source it reads and with
    the piece it writes. -/
theorem send_step (κ : GSem nD τ sig → ℕ) (c d : Dev nD) (k : Fin 8) (hd : d = tgt k c) {s : Shape} (v : Memref sig .tc .vmem s .bf16)
    {hsc : (v : Memref sig (Dev.tc d : Thread nD τ).2.kind .vmem s .bf16).view.ref.isScScratch = false}
    {hsrc : v.view.WordExact} {hdst : v.view.WordExact}
    {hsem : DmaTarget.Typed .vmem (.dma (recvS k)) (.remote (Dev.tc d : Thread nD τ) (v : Memref sig .tc .vmem s .bf16) (.dma (sendS k)) hsc)}
    {K : PUnit → Prog (TpuEff nD τ sig (Elt F) Λ₀ .tc) α} {Q : α → sProp 𝕄} {q : PosShare TreeShare}
    (fs : v.view.ty.Contents (Elt F)) (fd : v.view.ty.Contents (Elt F)) (n : ℕ)
    (hn : payCell c n = recvCell (tgt k c) k) (ha : payAmt n = amt k) (hN : v.view.dmaCredit = amt k)
    (hs : ((v.view.loc (c : Thread nD τ)) ↦[v.view.set]{q} fs : sProp 𝕄) = sendPay m c k)
    (hr : ((v.view.loc (tgt k c : Thread nD τ)) ↦[v.view.set]{fullShare} fs : sProp 𝕄) = recvPay m (tgt k c) k) (W : Waits sig Unit) :
    iprop(cellInv ER (talkRd m) (κ (sendCell c k)) (sendCell c k) ∗ cellInv ER (talkRd m) (κ (recvCell (tgt k c) k)) (recvCell (tgt k c) k)
        ∗ ((v.view.loc (c : Thread nD τ)) ↦[v.view.set]{q} fs) ∗ ((v.view.loc (tgt k c : Thread nD τ)) ↦[v.view.set]{fullShare} fd)
        ∗ owes (c : Thread nD τ) (owed c (n + 1)) W
        ∗ dutyTok ER (sendCell c k) 0 false ∗ reached ER (sendCell c k) 0
        ∗ dutyTok ER (recvCell (tgt k c) k) 0 false ∗ reached ER (recvCell (tgt k c) k) 0)
      ⊢ iprop(((cred (tallyAt (sendCell c k) () (amt k)) ∗ owes (c : Thread nD τ) (owed c n) W) -∗ run c (K ⟨⟩) Q)
          -∗ run c (.op (.enqueueDma v (.remote (Dev.tc d : Thread nD τ) v (.dma (sendS k)) hsc) (.dma (recvS k)) hsrc hdst hsem) K) Q) := by
  subst hd
  refine Rounds.wp_send_pointsTo (c' := (tgt k c : Thread nD τ)) (src := v) (dst := v) (sS := .dma (sendS k)) (sem := .dma (recvS k)) (q := q) (fs := fs) 𝒱₀ ER (talkRd m) (c : Thread nD τ) none (κ₁ := κ (sendCell c k)) (κ₂ := κ (recvCell (tgt k c) k))
    (r₁ := 0) (r₂ := 0) (d₁ := false) (d₂ := false) (fd := fd)
    (by rw [duties_send]; exact Finset.mem_singleton_self _) (by rw [duties_recv]; exact Finset.mem_singleton_self _)
    () () (amt k) hN (amount_send m c k false) (amount_recv m (tgt k c) k false) (owed c n) (by rw [owed_succ, hn, ha]) (W := W)
    (by rw [payload_send, hs]) ?_
  rw [payload_recv, ← hr]
  exact Entails.of_eq (pointsTo_congr (write_read_self v.view fd fs))

/-- The same on a piece of the query-weight buffer, with the cells' invariants taken from the records. -/
theorem send_q (κ : GSem nD τ sig → ℕ) (c d : Dev nD) (k : Fin 8) (hd : d = tgt k c) {sz : Fin 3 → ℕ} {o : Fin 3 → ℕ} {inb : ∀ a, o a + sz a ≤ S4x768x512.size a}
    {S : Finset (S4x768x512.Idx)} (hS : ((View.whole cc0_scratch0).slice (Rect.unit (s := S4x768x512) o sz inb)).set = S) {hu : ∀ a, (Rect.unit (s := S4x768x512) o sz inb).stride a = 1}
    {hsc : ((qM.slice (Rect.unit (s := S4x768x512) o sz inb) hu : Memref sig .tc .vmem ⟨3, sz⟩ .bf16) : Memref sig (Dev.tc d : Thread nD τ).2.kind .vmem ⟨3, sz⟩ .bf16).view.ref.isScScratch = false}
    {hsrc : (qM.slice (Rect.unit (s := S4x768x512) o sz inb) hu).view.WordExact} {hdst : (qM.slice (Rect.unit (s := S4x768x512) o sz inb) hu).view.WordExact}
    {hsem : DmaTarget.Typed .vmem (.dma (recvS k)) (.remote (Dev.tc d : Thread nD τ) (qM.slice (Rect.unit (s := S4x768x512) o sz inb) hu : Memref sig .tc .vmem ⟨3, sz⟩ .bf16) (.dma (sendS k)) hsc)}
    {K : PUnit → Prog (TpuEff nD τ sig (Elt F) Λ₀ .tc) α} {Q : α → sProp 𝕄} {q : PosShare TreeShare} (n : ℕ)
    (hn : payCell c n = recvCell (tgt k c) k) (ha : payAmt n = amt k) (hN : cc0_scratch0.dmaCredit ⟨3, sz⟩ .bf16 = amt k)
    (hs : (qPts c S q (gQ m) : sProp 𝕄) = sendPay m c k) (hr : (qPts (tgt k c) S fullShare (gQ m) : sProp 𝕄) = recvPay m (tgt k c) k) (W : Waits sig Unit) :
    iprop(records m κ ∗ qPts c S q (gQ m) ∗ qAny (tgt k c) S ∗ owes (c : Thread nD τ) (owed c (n + 1)) W
        ∗ dutyTok ER (sendCell c k) 0 false ∗ reached ER (sendCell c k) 0
        ∗ dutyTok ER (recvCell (tgt k c) k) 0 false ∗ reached ER (recvCell (tgt k c) k) 0)
      ⊢ iprop(((cred (tallyAt (sendCell c k) () (amt k)) ∗ owes (c : Thread nD τ) (owed c n) W) -∗ run c (K ⟨⟩) Q)
          -∗ run c (.op (.enqueueDma (qM.slice (Rect.unit (s := S4x768x512) o sz inb) hu) (.remote (Dev.tc d : Thread nD τ) (qM.slice (Rect.unit (s := S4x768x512) o sz inb) hu) (.dma (sendS k)) hsc) (.dma (recvS k)) hsrc hdst hsem) K) Q) := by
  subst hS
  iintro ⟨#HR, Hs, ⟨%fd, Hd⟩, HO, H1, H2, H3, H4⟩
  iapply (send_step m κ c d k hd (qM.slice (Rect.unit (s := S4x768x512) o sz inb) hu) (gQ m) fd n hn ha hN hs hr W)
  isplitr; · iapply (inv_at m κ (send_mem c k)); iexact HR
  isplitr; · iapply (inv_at m κ (recv_mem (tgt k c) k)); iexact HR
  isplitl [Hs]; · iexact Hs
  isplitl [Hd]; · iexact Hd
  isplitl [HO]; · iexact HO
  isplitl [H1]; · iexact H1
  isplitl [H2]; · iexact H2
  isplitl [H3]; · iexact H3
  iexact H4
/-- And on a piece of the output-weight buffer. -/
theorem send_o (κ : GSem nD τ sig → ℕ) (c d : Dev nD) (k : Fin 8) (hd : d = tgt k c) {sz : Fin 3 → ℕ} {o : Fin 3 → ℕ} {inb : ∀ a, o a + sz a ≤ S4x512x768.size a}
    {S : Finset (S4x512x768.Idx)} (hS : ((View.whole cc0_scratch1).slice (Rect.unit (s := S4x512x768) o sz inb)).set = S) {hu : ∀ a, (Rect.unit (s := S4x512x768) o sz inb).stride a = 1}
    {hsc : ((oM.slice (Rect.unit (s := S4x512x768) o sz inb) hu : Memref sig .tc .vmem ⟨3, sz⟩ .bf16) : Memref sig (Dev.tc d : Thread nD τ).2.kind .vmem ⟨3, sz⟩ .bf16).view.ref.isScScratch = false}
    {hsrc : (oM.slice (Rect.unit (s := S4x512x768) o sz inb) hu).view.WordExact} {hdst : (oM.slice (Rect.unit (s := S4x512x768) o sz inb) hu).view.WordExact}
    {hsem : DmaTarget.Typed .vmem (.dma (recvS k)) (.remote (Dev.tc d : Thread nD τ) (oM.slice (Rect.unit (s := S4x512x768) o sz inb) hu : Memref sig .tc .vmem ⟨3, sz⟩ .bf16) (.dma (sendS k)) hsc)}
    {K : PUnit → Prog (TpuEff nD τ sig (Elt F) Λ₀ .tc) α} {Q : α → sProp 𝕄} {q : PosShare TreeShare} (n : ℕ)
    (hn : payCell c n = recvCell (tgt k c) k) (ha : payAmt n = amt k) (hN : cc0_scratch1.dmaCredit ⟨3, sz⟩ .bf16 = amt k)
    (hs : (oPts c S q (gO m) : sProp 𝕄) = sendPay m c k) (hr : (oPts (tgt k c) S fullShare (gO m) : sProp 𝕄) = recvPay m (tgt k c) k) (W : Waits sig Unit) :
    iprop(records m κ ∗ oPts c S q (gO m) ∗ oAny (tgt k c) S ∗ owes (c : Thread nD τ) (owed c (n + 1)) W
        ∗ dutyTok ER (sendCell c k) 0 false ∗ reached ER (sendCell c k) 0
        ∗ dutyTok ER (recvCell (tgt k c) k) 0 false ∗ reached ER (recvCell (tgt k c) k) 0)
      ⊢ iprop(((cred (tallyAt (sendCell c k) () (amt k)) ∗ owes (c : Thread nD τ) (owed c n) W) -∗ run c (K ⟨⟩) Q)
          -∗ run c (.op (.enqueueDma (oM.slice (Rect.unit (s := S4x512x768) o sz inb) hu) (.remote (Dev.tc d : Thread nD τ) (oM.slice (Rect.unit (s := S4x512x768) o sz inb) hu) (.dma (sendS k)) hsc) (.dma (recvS k)) hsrc hdst hsem) K) Q) := by
  subst hS
  iintro ⟨#HR, Hs, ⟨%fd, Hd⟩, HO, H1, H2, H3, H4⟩
  iapply (send_step m κ c d k hd (oM.slice (Rect.unit (s := S4x512x768) o sz inb) hu) (gO m) fd n hn ha hN hs hr W)
  isplitr; · iapply (inv_at m κ (send_mem c k)); iexact HR
  isplitr; · iapply (inv_at m κ (recv_mem (tgt k c) k)); iexact HR
  isplitl [Hs]; · iexact Hs
  isplitl [Hd]; · iexact Hd
  isplitl [HO]; · iexact HO
  isplitl [H1]; · iexact H1
  isplitl [H2]; · iexact H2
  isplitl [H3]; · iexact H3
  iexact H4

/-- A wait for copy `k`'s completion on one side, which hands over what that side's cell holds. -/
theorem wait_recv (κ : GSem nD τ sig → ℕ) (c : Dev nD) (k : Fin 8) (O : CellTallies nD τ sig Unit) (W : Waits sig Unit) {s : Shape}
    {src dst : Memref sig .tc .vmem s .bf16} {hsrc : src.view.WordExact} {hdst : dst.view.WordExact} (hN : dst.view.dmaCredit = amt k)
    {K : PUnit → Prog (TpuEff nD τ sig (Elt F) Λ₀ .tc) α} {Q : α → sProp 𝕄} :
    iprop(records m κ ∗ cred (tallyAt (recvCell c k) () (amt k)) ∗ owes (c : Thread nD τ) O W
        ∗ MayWait (c : Thread nD τ) (.dma (recvS k)) () O ∗ atPos ER (recvCell c k) 0 ∅ 0)
      ⊢ iprop(((owes (c : Thread nD τ) O (insert (SemLoc.dma (recvS k), ()) W) ∗ atPos ER (recvCell c k) (0 + 1) ∅ 0 ∗ recvPay m c k)
            -∗ run c (K ⟨⟩) Q)
          -∗ run c (.op (.waitDma2 (recvS k) src dst hsrc hdst) K) Q) := by
  iintro ⟨#HI, Hc, HO, HM, Hat⟩ Hk
  iapply (Rounds.wp_wait_rest_token 𝒱₀ ER (talkRd m) (c : Thread nD τ) none (κ := κ (recvCell c k))
      (wpE_waitDma2_eq 𝒱₀ (c : Thread nD τ) none Set.univ) (Set.mem_univ _) () (O := O) (W := W) (R := 0) (m := 0) (T := ∅)
      (by rw [Nat.zero_add, hN, expect_recv])) $$ [Hc HO HM Hat]
  · isplitr; · iapply (inv_at m κ (recv_mem c k)); iexact HI
    isplitl [Hc]; · rw [hN]; iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_recv m c k)); iexact Hpay
theorem wait_send (κ : GSem nD τ sig → ℕ) (c : Dev nD) (k : Fin 8) (W : Waits sig Unit) {s : Shape}
    {src dst : Memref sig .tc .vmem s .bf16} {hsrc : src.view.WordExact} {hdst : dst.view.WordExact} (hN : dst.view.dmaCredit = amt k)
    {K : PUnit → Prog (TpuEff nD τ sig (Elt F) Λ₀ .tc) α} {Q : α → sProp 𝕄} :
    iprop(records m κ ∗ cred (tallyAt (sendCell c k) () (amt k))
        ∗ owes (c : Thread nD τ) (0 : CellTallies nD τ sig Unit) W ∗ atPos ER (sendCell c k) 0 ∅ 0)
      ⊢ iprop(((owes (c : Thread nD τ) (0 : CellTallies nD τ sig Unit) (insert (SemLoc.dma (sendS k), ()) W)
            ∗ atPos ER (sendCell c k) (0 + 1) ∅ 0 ∗ sendPay m c k) -∗ run c (K ⟨⟩) Q)
          -∗ run c (.op (.waitDma2 (sendS k) src dst hsrc hdst) K) Q) := by
  iintro ⟨#HI, Hc, HO, Hat⟩ Hk
  iapply (Rounds.wp_wait_rest_token 𝒱₀ ER (talkRd m) (c : Thread nD τ) none (κ := κ (sendCell c k))
      (wpE_waitDma2_eq 𝒱₀ (c : Thread nD τ) none Set.univ) (Set.mem_univ _) () (O := 0) (W := W) (R := 0) (m := 0) (T := ∅)
      (by rw [Nat.zero_add, hN, expect_send])) $$ [Hc HO Hat]
  · isplitr; · iapply (inv_at m κ (send_mem c k)); iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c k)); iexact Hpay

end Cert.RingAttn

end
-- ==== Proof.Pieces.lean ====
/-
# Splitting and joining the pieces

A whole buffer is its four slots, a slot its two halves, and a piece the two halves of its share.
-/
module

public import proofs.«01_k».proof.Proof.Protocol

@[expose] public section

set_option maxRecDepth 16384

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting and joining the pieces -/

theorem eq_of_bi {P Q : sProp 𝕄} (h : P ⊣⊢ Q) : P = Q := BI.equiv_iff.mp ⟨h.1, h.2⟩

theorem slots_all (c : Dev nD) : (Finset.univ : Finset (Dev nD)) = [c, prv c, nxt c, dia c].toFinset := by revert c; decide
theorem slots_nodup (c : Dev nD) : [c, prv c, nxt c, dia c].Nodup := by revert c; decide

/-- A whole buffer as its four slots, the own one first. -/
theorem q_split (c : Dev nD) (q : PosShare TreeShare) (f : S4x768x512.Idx → Elt F .bf16) :
    (qPts c Finset.univ q f : sProp 𝕄) = iprop(qPts c (qSlot c) q f ∗ qPts c (qSlot (prv c)) q f ∗ qPts c (qSlot (nxt c)) q f ∗ qPts c (qSlot (dia c)) q f) := by
  have hu : ∀ T : Finset (S4x768x512.Idx), (∀ i, i ∈ T) → (qPts c Finset.univ q f : sProp 𝕄) = qPts c T q f :=
    fun T h => by rw [Finset.eq_univ_of_forall h]
  have hb := pointsTo_biUnion (ℓ := (c : Thread nD τ).loc cc0_scratch0) (q := q) (f := f) (Ix := Unit) (Name := ℕ) (U := UU) (Lvl := ℕ)
    (Finset.univ : Finset (Dev nD)) qSlot (fun j _ j' _ h => q_disj h)
  refine ((hu _ fun i => ?_).trans hb).trans ?_
  · exact Finset.mem_biUnion.mpr ⟨⟨(i 0).val, (i 0).isLt⟩, Finset.mem_univ _, Finset.mem_filter.mpr ⟨Finset.mem_univ _, rfl⟩⟩
  · exact bigSep_univ_eq_bigSepL [c, prv c, nxt c, dia c] (slots_all c) (slots_nodup c) _
theorem o_split (c : Dev nD) (q : PosShare TreeShare) (f : S4x512x768.Idx → Elt F .bf16) :
    (oPts c Finset.univ q f : sProp 𝕄) = iprop(oPts c (oSlot c) q f ∗ oPts c (oSlot (prv c)) q f ∗ oPts c (oSlot (nxt c)) q f ∗ oPts c (oSlot (dia c)) q f) := by
  have hu : ∀ T : Finset (S4x512x768.Idx), (∀ i, i ∈ T) → (oPts c Finset.univ q f : sProp 𝕄) = oPts c T q f :=
    fun T h => by rw [Finset.eq_univ_of_forall h]
  have hb := pointsTo_biUnion (ℓ := (c : Thread nD τ).loc cc0_scratch1) (q := q) (f := f) (Ix := Unit) (Name := ℕ) (U := UU) (Lvl := ℕ)
    (Finset.univ : Finset (Dev nD)) oSlot (fun j _ j' _ h => o_disj h)
  refine ((hu _ fun i => ?_).trans hb).trans ?_
  · exact Finset.mem_biUnion.mpr ⟨⟨(i 0).val, (i 0).isLt⟩, Finset.mem_univ _, Finset.mem_filter.mpr ⟨Finset.mem_univ _, rfl⟩⟩
  · exact bigSep_univ_eq_bigSepL [c, prv c, nxt c, dia c] (slots_all c) (slots_nodup c) _

/-- A slot as its halves. -/
theorem q_half (c j : Dev nD) (q : PosShare TreeShare) (f : S4x768x512.Idx → Elt F .bf16) :
    (qPts c (qSlot j) q f : sProp 𝕄) = iprop(qPts c (qLo j) q f ∗ qPts c (qHi j) q f) := by
  rw [← q_halves]; exact eq_of_bi (pointsTo_union (q_halves_disj j))
theorem o_half (c j : Dev nD) (q : PosShare TreeShare) (f : S4x512x768.Idx → Elt F .bf16) :
    (oPts c (oSlot j) q f : sProp 𝕄) = iprop(oPts c (oLo j) q f ∗ oPts c (oHi j) q f) := by
  rw [← o_halves]; exact eq_of_bi (pointsTo_union (o_halves_disj j))

/-- A piece as the two halves of its share. -/
theorem q_share (c : Dev nD) (S : Finset (S4x768x512.Idx)) (q : PosShare TreeShare) (f : S4x768x512.Idx → Elt F .bf16) :
    (qPts c S q f : sProp 𝕄) = iprop(qPts c S q.left f ∗ qPts c S q.right f) :=
  eq_of_bi (pointsTo_share (PosShare.mem_left_op_right q))
theorem o_share (c : Dev nD) (S : Finset (S4x512x768.Idx)) (q : PosShare TreeShare) (f : S4x512x768.Idx → Elt F .bf16) :
    (oPts c S q f : sProp 𝕄) = iprop(oPts c S q.left f ∗ oPts c S q.right f) :=
  eq_of_bi (pointsTo_share (PosShare.mem_left_op_right q))

/-- The own slot in its three shares. -/
theorem q_three (c : Dev nD) (S : Finset (S4x768x512.Idx)) (f : S4x768x512.Idx → Elt F .bf16) :
    (qPts c S fullShare f : sProp 𝕄) = iprop(qPts c S shR f ∗ qPts c S shL f ∗ qPts c S shK f) := by
  rw [q_share c S fullShare, q_share c S fullShare.right]
theorem o_three (c : Dev nD) (S : Finset (S4x512x768.Idx)) (f : S4x512x768.Idx → Elt F .bf16) :
    (oPts c S fullShare f : sProp 𝕄) = iprop(oPts c S shR f ∗ oPts c S shL f ∗ oPts c S shK f) := by
  rw [o_share c S fullShare, o_share c S fullShare.right]

/-- A received slot with its halves at the share one of them is forwarded at, and the rest kept whole. -/
theorem q_forward (c j : Dev nD) (f : S4x768x512.Idx → Elt F .bf16) :
    (qPts c (qSlot j) fullShare f : sProp 𝕄) = iprop((qPts c (qLo j) shR f ∗ qPts c (qHi j) shR f) ∗ qPts c (qSlot j) fullShare.right f) := by
  rw [q_share c (qSlot j) fullShare, q_half c j fullShare.left]
theorem o_forward (c j : Dev nD) (f : S4x512x768.Idx → Elt F .bf16) :
    (oPts c (oSlot j) fullShare f : sProp 𝕄) = iprop((oPts c (oLo j) shR f ∗ oPts c (oHi j) shR f) ∗ oPts c (oSlot j) fullShare.right f) := by
  rw [o_share c (oSlot j) fullShare, o_half c j fullShare.left]

end Cert.RingAttn

end
-- ==== Proof.Body.lean ====
/-
# The body's run

One device's program from the moment it holds its pieces to its end, once, at a symbolic device. It fills its own slot,
lends both neighbours the pieces they write, copies its slot to each of them, computes the chunk of its own heads,
forwards a half of each neighbour's slot, computes the other three chunks as their slots arrive, stores the sum, and
takes back every share it lent.
-/
module

public import proofs.«01_k».proof.Proof.Steps
public import proofs.«01_k».proof.Proof.Pieces

@[expose] public section

set_option maxRecDepth 65536

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the body computes -/

section Out
variable (acc : FVec F S1024x768 .f32) (x : FVec F S1024x768 .bf16) (q : FVec F S1x768x512 .bf16) (o : FVec F S1x512x768 .bf16)
  (k v : Vec F S8x2x512x64 .bf16)

/-- The chunk of the own heads. -/
def chunkOwn : FVec F S1024x768 .f32 :=
  k0_pay15 (k0_pay4 o) (k0_pay5 x q) (k0_pay6 k) (k0_pay7 v) (k0_pay10 (k0_pay8 v) (k0_pay9 x q k))
    (k0_pay11 (k0_pay5 x q) (k0_pay6 k) (k0_pay7 v)) (k0_pay13 (k0_pay5 x q) (k0_pay6 k)) (k0_pay14 (k0_pay5 x q) (k0_pay6 k) (k0_pay7 v))

/-- The scale of the scores. -/
def eighth : F .f32 := Scalar.ofBits .f32 0x3E000000#32

/-- The sum so far with the chunk of the left neighbour's heads. -/
def addLeft : FVec F S1024x768 .f32 :=
  k0_pay29 acc (k0_pay16 o) (k0_pay21 (k0_pay17 x q) eighth k v) (k0_pay24 (k0_pay22 v) (k0_pay23 (k0_pay17 x q) eighth k))
    (k0_pay25 (k0_pay18 (k0_pay17 x q) eighth) (k0_pay19 k) (k0_pay20 v)) (k0_pay27 (k0_pay18 (k0_pay17 x q) eighth) (k0_pay19 k))
    (k0_pay28 (k0_pay18 (k0_pay17 x q) eighth) (k0_pay19 k) (k0_pay20 v))

/-- And with the right neighbour's. -/
def addRight : FVec F S1024x768 .f32 :=
  k0_pay42 acc (k0_pay30 o) (k0_pay31 x q) (k0_pay32 k) (k0_pay33 v) (k0_pay37 (k0_pay34 x q) (k0_pay35 k) (k0_pay36 v))
    (k0_pay38 (k0_pay31 x q) (k0_pay32 k) (k0_pay33 v)) (k0_pay39 (k0_pay33 v)) (k0_pay40 (k0_pay31 x q) (k0_pay32 k))
    (k0_pay41 (k0_pay31 x q) (k0_pay32 k))

/-- The result block: the sum with the chunk of the opposite device's heads. -/
def addDia : FVec F S2x512x768 .f32 :=
  k0_pay55 acc (k0_pay43 o) (k0_pay48 (k0_pay44 x q) k v)
    (k0_pay52 (k0_pay49 v) (k0_pay50 (k0_pay44 x q) k) (k0_pay51 (k0_pay44 x q) k))
    (k0_pay53 (k0_pay45 (k0_pay44 x q)) (k0_pay46 k) (k0_pay47 v)) (k0_pay54 (k0_pay45 (k0_pay44 x q)) (k0_pay46 k) (k0_pay47 v))

end Out

/-- The result block of device `c`. -/
def outAt (c : Dev nD) : FVec F S2x512x768 .f32 :=
  addDia
    (addRight
      (addLeft (chunkOwn (k0_pay3 (inX m c)) (k0_pay1 (inQ m c)) (k0_pay2 (inO m c)) (headBlk c (inK m c)) (headBlk c (inV m c)))
        (k0_pay3 (inX m c)) (k0_pay1 (inQ m (prv c))) (k0_pay2 (inO m (prv c))) (headBlk (prv c) (inK m c)) (headBlk (prv c) (inV m c)))
      (k0_pay3 (inX m c)) (k0_pay1 (inQ m (nxt c))) (k0_pay2 (inO m (nxt c))) (headBlk (nxt c) (inK m c)) (headBlk (nxt c) (inV m c)))
    (k0_pay3 (inX m c)) (k0_pay1 (inQ m (dia c))) (k0_pay2 (inO m (dia c))) (headBlk (dia c) (inK m c)) (headBlk (dia c) (inV m c))

/-! ## Where the printed offsets and devices point -/

theorem left_off (c : Dev nD) : ((c.val + 2 + 1) % 4) = (prv c).val := by revert c; decide
theorem right_off (c : Dev nD) : ((c.val + 0 + 1) % 4) = (nxt c).val := by revert c; decide
theorem dia_off (c : Dev nD) : ((c.val + 1 + 1) % 4) = (dia c).val := by revert c; decide

theorem q_left (c : Dev nD) : k0_off10 c 3#32 = ![(prv c).val, 0, 0] := by rw [← left_off]; exact k0_off10_eq c 2
theorem q_right (c : Dev nD) : k0_off10 c 1#32 = ![(nxt c).val, 0, 0] := by rw [← right_off]; exact k0_off10_eq c 0
theorem q_dia (c : Dev nD) : k0_off10 c 2#32 = ![(dia c).val, 0, 0] := by rw [← dia_off]; exact k0_off10_eq c 1
theorem o_left (c : Dev nD) : k0_off11 c 3#32 = ![(prv c).val, 0, 0] := by rw [← left_off]; exact k0_off11_eq c 2
theorem o_right (c : Dev nD) : k0_off11 c 1#32 = ![(nxt c).val, 0, 0] := by rw [← right_off]; exact k0_off11_eq c 0
theorem o_dia (c : Dev nD) : k0_off11 c 2#32 = ![(dia c).val, 0, 0] := by rw [← dia_off]; exact k0_off11_eq c 1
theorem h_left (c : Dev nD) : k0_off12 c 3#32 = ![8 * (prv c).val, 0, 0, 0] := by rw [← left_off]; exact k0_off12_eq c 2
theorem h_right (c : Dev nD) : k0_off12 c 1#32 = ![8 * (nxt c).val, 0, 0, 0] := by rw [← right_off]; exact k0_off12_eq c 0
theorem h_dia (c : Dev nD) : k0_off12 c 2#32 = ![8 * (dia c).val, 0, 0, 0] := by rw [← dia_off]; exact k0_off12_eq c 1

/-! ## The semaphores the body names -/

theorem sem_send0 : ((cc0_scratch2.slice (Rect.unit (s := S8) ![0] ![1] inb_S8_S1_0)).squeeze S_ squeezes_S1_S_).sem = sendS 0 := rfl
theorem sem_recv0 : ((cc0_scratch3.slice (Rect.unit (s := S8) ![0] ![1] inb_S8_S1_0)).squeeze S_ squeezes_S1_S_).sem = recvS 0 := rfl
theorem sem_send1 : ((cc0_scratch2.slice (Rect.unit (s := S8) ![1] ![1] inb_S8_S1_1)).squeeze S_ squeezes_S1_S_).sem = sendS 1 := rfl
theorem sem_recv1 : ((cc0_scratch3.slice (Rect.unit (s := S8) ![1] ![1] inb_S8_S1_1)).squeeze S_ squeezes_S1_S_).sem = recvS 1 := rfl
theorem sem_send2 : ((cc0_scratch2.slice (Rect.unit (s := S8) ![2] ![1] inb_S8_S1_2)).squeeze S_ squeezes_S1_S_).sem = sendS 2 := rfl
theorem sem_recv2 : ((cc0_scratch3.slice (Rect.unit (s := S8) ![2] ![1] inb_S8_S1_2)).squeeze S_ squeezes_S1_S_).sem = recvS 2 := rfl
theorem sem_send3 : ((cc0_scratch2.slice (Rect.unit (s := S8) ![3] ![1] inb_S8_S1_3)).squeeze S_ squeezes_S1_S_).sem = sendS 3 := rfl
theorem sem_recv3 : ((cc0_scratch3.slice (Rect.unit (s := S8) ![3] ![1] inb_S8_S1_3)).squeeze S_ squeezes_S1_S_).sem = recvS 3 := rfl
theorem sem_send4 : ((cc0_scratch2.slice (Rect.unit (s := S8) ![4] ![1] inb_S8_S1_4)).squeeze S_ squeezes_S1_S_).sem = sendS 4 := rfl
theorem sem_recv4 : ((cc0_scratch3.slice (Rect.unit (s := S8) ![4] ![1] inb_S8_S1_4)).squeeze S_ squeezes_S1_S_).sem = recvS 4 := rfl
theorem sem_send5 : ((cc0_scratch2.slice (Rect.unit (s := S8) ![5] ![1] inb_S8_S1_5)).squeeze S_ squeezes_S1_S_).sem = sendS 5 := rfl
theorem sem_recv5 : ((cc0_scratch3.slice (Rect.unit (s := S8) ![5] ![1] inb_S8_S1_5)).squeeze S_ squeezes_S1_S_).sem = recvS 5 := rfl
theorem sem_send6 : ((cc0_scratch2.slice (Rect.unit (s := S8) ![6] ![1] inb_S8_S1_6)).squeeze S_ squeezes_S1_S_).sem = sendS 6 := rfl
theorem sem_recv6 : ((cc0_scratch3.slice (Rect.unit (s := S8) ![6] ![1] inb_S8_S1_6)).squeeze S_ squeezes_S1_S_).sem = recvS 6 := rfl
theorem sem_send7 : ((cc0_scratch2.slice (Rect.unit (s := S8) ![7] ![1] inb_S8_S1_7)).squeeze S_ squeezes_S1_S_).sem = sendS 7 := rfl
theorem sem_recv7 : ((cc0_scratch3.slice (Rect.unit (s := S8) ![7] ![1] inb_S8_S1_7)).squeeze S_ squeezes_S1_S_).sem = recvS 7 := rfl
theorem dev1_is (c : Dev nD) : (⟨k0_dev1 c, k0_dev1_lt c⟩ : Dev nD) = prv c := Fin.ext (k0_dev1_eq c)
theorem dev2_is (c : Dev nD) : (⟨k0_dev2 c, k0_dev2_lt c⟩ : Dev nD) = nxt c := Fin.ext (k0_dev2_eq c)
theorem dev3_is (c : Dev nD) : (⟨k0_dev3 c, k0_dev3_lt c⟩ : Dev nD) = nxt c := Fin.ext (k0_dev3_eq c)
theorem dev4_is (c : Dev nD) : (⟨k0_dev4 c, k0_dev4_lt c⟩ : Dev nD) = nxt c := Fin.ext (k0_dev4_eq c)
theorem dev5_is (c : Dev nD) : (⟨k0_dev5 c, k0_dev5_lt c⟩ : Dev nD) = prv c := Fin.ext (k0_dev5_eq c)
theorem dev6_is (c : Dev nD) : (⟨k0_dev6 c, k0_dev6_lt c⟩ : Dev nD) = prv c := Fin.ext (k0_dev6_eq c)
theorem dev7_is (c : Dev nD) : (⟨k0_dev7 c, k0_dev7_lt c⟩ : Dev nD) = nxt c := Fin.ext (k0_dev7_eq c)
theorem dev8_is (c : Dev nD) : (⟨k0_dev8 c, k0_dev8_lt c⟩ : Dev nD) = nxt c := Fin.ext (k0_dev8_eq c)
theorem dev9_is (c : Dev nD) : (⟨k0_dev9 c, k0_dev9_lt c⟩ : Dev nD) = prv c := Fin.ext (k0_dev9_eq c)
theorem dev10_is (c : Dev nD) : (⟨k0_dev10 c, k0_dev10_lt c⟩ : Dev nD) = prv c := Fin.ext (k0_dev10_eq c)

/-! ## What each copy leaves is what its target waits for -/

theorem pay0 (c : Dev nD) : (qPts (tgt 0 c) (qSlot c) fullShare (gQ m) : sProp 𝕄) = recvPay m (tgt 0 c) 0 := by
  show _ = qPts (nxt c) (qSlot (prv (nxt c))) fullShare (gQ m); rw [prv_nxt]; rfl
theorem pay1 (c : Dev nD) : (oPts (tgt 1 c) (oSlot c) fullShare (gO m) : sProp 𝕄) = recvPay m (tgt 1 c) 1 := by
  show _ = oPts (nxt c) (oSlot (prv (nxt c))) fullShare (gO m); rw [prv_nxt]; rfl
theorem pay2 (c : Dev nD) : (qPts (tgt 2 c) (qSlot c) fullShare (gQ m) : sProp 𝕄) = recvPay m (tgt 2 c) 2 := by
  show _ = qPts (prv c) (qSlot (nxt (prv c))) fullShare (gQ m); rw [nxt_prv]; rfl
theorem pay3 (c : Dev nD) : (oPts (tgt 3 c) (oSlot c) fullShare (gO m) : sProp 𝕄) = recvPay m (tgt 3 c) 3 := by
  show _ = oPts (prv c) (oSlot (nxt (prv c))) fullShare (gO m); rw [nxt_prv]; rfl
theorem pay4 (c : Dev nD) : (qPts (tgt 4 c) (qLo (prv c)) fullShare (gQ m) : sProp 𝕄) = recvPay m (tgt 4 c) 4 := by
  show _ = qPts (nxt c) (qLo (dia (nxt c))) fullShare (gQ m); rw [dia_nxt]; rfl
theorem pay5 (c : Dev nD) : (oPts (tgt 5 c) (oLo (prv c)) fullShare (gO m) : sProp 𝕄) = recvPay m (tgt 5 c) 5 := by
  show _ = oPts (nxt c) (oLo (dia (nxt c))) fullShare (gO m); rw [dia_nxt]; rfl
theorem pay6 (c : Dev nD) : (qPts (tgt 6 c) (qHi (nxt c)) fullShare (gQ m) : sProp 𝕄) = recvPay m (tgt 6 c) 6 := by
  show _ = qPts (prv c) (qHi (dia (prv c))) fullShare (gQ m); rw [dia_prv]; rfl
theorem pay7 (c : Dev nD) : (oPts (tgt 7 c) (oHi (nxt c)) fullShare (gO m) : sProp 𝕄) = recvPay m (tgt 7 c) 7 := by
  show _ = oPts (prv c) (oHi (dia (prv c))) fullShare (gO m); rw [dia_prv]; rfl

/-- What the left neighbour is given with the signal to it. -/
theorem give_left (c : Dev nD) (fq : S4x768x512.Idx → Elt F .bf16) (fo : S4x512x768.Idx → Elt F .bf16) :
    iprop(qPts c (qSlot (prv c)) fullShare fq ∗ oPts c (oSlot (prv c)) fullShare fo ∗ qPts c (qLo (dia c)) fullShare fq ∗ oPts c (oLo (dia c)) fullShare fo
      ∗ reached ER (recvCell c 0) 0 ∗ reached ER (recvCell c 1) 0 ∗ reached ER (recvCell c 4) 0 ∗ reached ER (recvCell c 5) 0)
    ⊢ (talkRd (F := F) m).payload (barCell (prv c)) 0 true := by
  rw [payload_bar_true]; unfold barPayR; rw [nxt_prv, prv_prv]
  iintro ⟨H1, H2, H3, H4, H⟩
  isplitl [H1]; · iexists fq; iexact H1
  isplitl [H2]; · iexists fo; iexact H2
  isplitl [H3]; · iexists fq; iexact H3
  isplitl [H4]; · iexists fo; iexact H4
  iexact H
/-- And the right one. -/
theorem give_right (c : Dev nD) (fq : S4x768x512.Idx → Elt F .bf16) (fo : S4x512x768.Idx → Elt F .bf16) :
    iprop(qPts c (qSlot (nxt c)) fullShare fq ∗ oPts c (oSlot (nxt c)) fullShare fo ∗ qPts c (qHi (dia c)) fullShare fq ∗ oPts c (oHi (dia c)) fullShare fo
      ∗ reached ER (recvCell c 2) 0 ∗ reached ER (recvCell c 3) 0 ∗ reached ER (recvCell c 6) 0 ∗ reached ER (recvCell c 7) 0)
    ⊢ (talkRd (F := F) m).payload (barCell (nxt c)) 0 false := by
  rw [payload_bar_false]; unfold barPayL; rw [prv_nxt, nxt_nxt]
  iintro ⟨H1, H2, H3, H4, H⟩
  isplitl [H1]; · iexists fq; iexact H1
  isplitl [H2]; · iexists fo; iexact H2
  isplitl [H3]; · iexists fq; iexact H3
  isplitl [H4]; · iexists fo; iexact H4
  iexact H

/-- A device that owes nothing may wait for any copy. -/
theorem mayWait_none (c : Dev nD) (s : DmaSem sig) : (emp : sProp 𝕄) ⊢ MayWait (c : Thread nD τ) (.dma s) () (owed c 0) := by
  show _ ⊢ MayWait (c : Thread nD τ) (.dma s) () 0
  rw [MayWait_zero]; exact Entails.refl _

/-- The barrier's wait: both neighbours' pieces come. -/
theorem wait_bar {α : Type} (κ : GSem nD τ sig → ℕ) (c : Dev nD) (W : Waits sig Unit)
    {K : PUnit → Prog (TpuEff nD τ sig (Elt F) Λ₀ .tc) α} {Q : α → sProp 𝕄} :
    iprop(records m κ ∗ cred (tallyAt (barCell c) () 2) ∗ owes (c : Thread nD τ) (owed c 8) W ∗ levAts L lv ∗ atPos ER (barCell c) 0 ∅ 0)
      ⊢ iprop(((owes (c : Thread nD τ) (owed c 8) (insert (SemLoc.reg barS, ()) W) ∗ atPos ER (barCell c) (0 + 1) ∅ 0 ∗ (barPayL c ∗ barPayR c))
            -∗ run c (K ⟨⟩) Q)
          -∗ run c (.op (.semWait barS 2) K) Q) := by
  iintro ⟨#HR, Hc, HO, #Hlev, Hat⟩ Hk
  iapply (Rounds.wp_wait_rest_token 𝒱₀ ER (talkRd m) (c : Thread nD τ) none (κ := κ (barCell c))
      (wpE_semWait_eq 𝒱₀ (c : Thread nD τ) none Set.univ) (Set.mem_univ _) () (O := owed c 8) (W := W) (R := 0) (m := 0) (T := ∅)
      (by rw [expect_bar])) $$ [Hc HO Hat]
  · isplitr; · iapply (inv_at m κ (bar_mem c)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- A cell whose one round is over is closed. -/
theorem close_cell (κ : GSem nD τ sig → ℕ) {g : GSem nD τ sig} (hg : g ∈ (barCells ∪ scCells : Finset (GSem nD τ sig))) :
    iprop(records m κ ∗ atPos ER g (0 + 1) ∅ 0) ⊢ (iprop(|={Set.univ}=> semVal g 0) : sProp 𝕄) := by
  iintro ⟨#HR, Hat⟩
  imod (Rounds.cell_close ER (talkRd m) (Set.mem_univ (κ g)) (fun h => h) (R := 0 + 1) (duties_later m g)) $$ [Hat] with Hz
  · isplitr; · iapply (inv_at m κ hg); iexact HR
    iexact Hat
  imodintro; iexact Hz

/-- The shares of a buffer as they stand at the end are the whole buffer. -/
theorem q_back (c : Dev nD) (f : S4x768x512.Idx → Elt F .bf16) :
    iprop(qPts c (qSlot c) shR f ∗ qPts c (qSlot c) shL f ∗ qPts c (qSlot c) shK f
      ∗ qPts c (qLo (prv c)) shR f ∗ qPts c (qHi (prv c)) shR f ∗ qPts c (qSlot (prv c)) fullShare.right f
      ∗ qPts c (qLo (nxt c)) shR f ∗ qPts c (qHi (nxt c)) shR f ∗ qPts c (qSlot (nxt c)) fullShare.right f
      ∗ qPts c (qSlot (dia c)) fullShare f) ⊢ (qPts c Finset.univ fullShare f : sProp 𝕄) := by
  rw [q_split c fullShare f, q_three c (qSlot c) f, q_forward c (prv c) f, q_forward c (nxt c) f]
  iintro ⟨H1, H2, H3, H4, H5, H6, H7, H8, H9, HA⟩
  isplitl [H1 H2 H3]
  · isplitl [H1]; · iexact H1
    isplitl [H2]; · iexact H2
    iexact H3
  isplitl [H4 H5 H6]
  · isplitl [H4 H5]
    · isplitl [H4]; · iexact H4
      iexact H5
    iexact H6
  isplitl [H7 H8 H9]
  · isplitl [H7 H8]
    · isplitl [H7]; · iexact H7
      iexact H8
    iexact H9
  iexact HA
theorem o_back (c : Dev nD) (f : S4x512x768.Idx → Elt F .bf16) :
    iprop(oPts c (oSlot c) shR f ∗ oPts c (oSlot c) shL f ∗ oPts c (oSlot c) shK f
      ∗ oPts c (oLo (prv c)) shR f ∗ oPts c (oHi (prv c)) shR f ∗ oPts c (oSlot (prv c)) fullShare.right f
      ∗ oPts c (oLo (nxt c)) shR f ∗ oPts c (oHi (nxt c)) shR f ∗ oPts c (oSlot (nxt c)) fullShare.right f
      ∗ oPts c (oSlot (dia c)) fullShare f) ⊢ (oPts c Finset.univ fullShare f : sProp 𝕄) := by
  rw [o_split c fullShare f, o_three c (oSlot c) f, o_forward c (prv c) f, o_forward c (nxt c) f]
  iintro ⟨H1, H2, H3, H4, H5, H6, H7, H8, H9, HA⟩
  isplitl [H1 H2 H3]
  · isplitl [H1]; · iexact H1
    isplitl [H2]; · iexact H2
    iexact H3
  isplitl [H4 H5 H6]
  · isplitl [H4 H5]
    · isplitl [H4]; · iexact H4
      iexact H5
    iexact H6
  isplitl [H7 H8 H9]
  · isplitl [H7 H8]
    · isplitl [H7]; · iexact H7
      iexact H8
    iexact H9
  iexact HA

/-! ## The run -/

/-- What a device holds as its body starts. -/
def bodyPre (κ : GSem nD τ sig → ℕ) (c : Dev nD) (W : Waits sig Unit) : sProp 𝕄 :=
  iprop(records m κ ∗ levAts L lv ∗ atPos ER (barCell c) 0 ∅ 0 ∗ opened c ∗ payToks c ∗ creds c
    ∗ (∃ f, qPts c Finset.univ fullShare f) ∗ (∃ f, oPts c Finset.univ fullShare f)
    ∗ stgPts c cc0_stg0_0 (inX m c) ∗ stgPts c cc0_stg1_0 (inQ m c) ∗ stgPts c cc0_stg2_0 (inK m c) ∗ stgPts c cc0_stg3_0 (inV m c)
    ∗ stgPts c cc0_stg4_0 (inO m c) ∗ (∃ f, stgPts c cc0_stg5_0 f) ∗ owes (c : Thread nD τ) (O₀ c) W)

/-- What it holds at the end: every counter back at zero, the two buffers, the blocks as staged, the result. -/
def bodyPost (c : Dev nD) : sProp 𝕄 :=
  iprop(semVal (barCell c) 0 ∗ (bigSep Finset.univ fun k : Fin 8 => semVal (sendCell c k) 0) ∗ (bigSep Finset.univ fun k : Fin 8 => semVal (recvCell c k) 0)
    ∗ (∃ f, qPts c Finset.univ fullShare f) ∗ (∃ f, oPts c Finset.univ fullShare f)
    ∗ stgPts c cc0_stg0_0 (inX m c) ∗ stgPts c cc0_stg1_0 (inQ m c) ∗ stgPts c cc0_stg2_0 (inK m c) ∗ stgPts c cc0_stg3_0 (inV m c)
    ∗ stgPts c cc0_stg4_0 (inO m c) ∗ stgPts c cc0_stg5_0 (outAt m c) ∗ ∃ W, owes (c : Thread nD τ) (0 : CellTallies nD τ sig Unit) W)

/-- The body at the launch's buffers. -/
abbrev theBody : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

set_option maxHeartbeats 8000000 in
theorem body_run (κ : GSem nD τ sig → ℕ) (c : Dev nD) (W : Waits sig Unit) (Kt : PUnit → sProp 𝕄) :
    iprop(bodyPre m κ c W ∗ (bodyPost m c -∗ Kt ⟨⟩)) ⊢ run c (theBody (F := F)) Kt := by
  simp only [theBody, run, cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel,
    semSignalWord, semWaitWord, Prog.lift, Prog.bind_op, Prog.bind_ret, Prog.pure_eq_ret, Prog.bind_assoc, wp_deviceId]
  simp only [sem_send0, sem_recv0, sem_send1, sem_recv1, sem_send2, sem_recv2, sem_send3, sem_recv3, sem_send4, sem_recv4, sem_send5, sem_recv5, sem_send6, sem_recv6, sem_send7, sem_recv7]
  unfold bodyPre opened payToks creds
  simp only [bigSep_fin8]
  iintro ⟨⟨#HR, #Hlev, HatB, ⟨⟨⟨HaS0, #HrS0⟩, ⟨HaS1, #HrS1⟩, ⟨HaS2, #HrS2⟩, ⟨HaS3, #HrS3⟩, ⟨HaS4, #HrS4⟩, ⟨HaS5, #HrS5⟩, ⟨HaS6, #HrS6⟩, ⟨HaS7, #HrS7⟩⟩, ⟨HaV0, #HrV0⟩, ⟨HaV1, #HrV1⟩, ⟨HaV2, #HrV2⟩, ⟨HaV3, #HrV3⟩, ⟨HaV4, #HrV4⟩, ⟨HaV5, #HrV5⟩, ⟨HaV6, #HrV6⟩, ⟨HaV7, #HrV7⟩⟩,
    ⟨HtP, HtN, ⟨HtS0, HtS1, HtS2, HtS3, HtS4, HtS5, HtS6, HtS7⟩, HtV0, HtV1, HtV2, HtV3, HtV4, HtV5, HtV6, HtV7⟩, ⟨HcB, HcV0, HcV1, HcV2, HcV3, HcV4, HcV5, HcV6, HcV7⟩,
    ⟨%fq, Hq⟩, ⟨%fo, Ho⟩, HX, HWq, HK, HV, HWo, ⟨%fr, Hout⟩, HO⟩, Hk⟩
  -- the two buffers in their slots
  ihave Hq := (Entails.of_eq (q_split c fullShare fq)) $$ Hq
  ihave Ho := (Entails.of_eq (o_split c fullShare fo)) $$ Ho
  icases Hq with ⟨Hqc, Hqp, Hqn, Hqd⟩
  icases Ho with ⟨Hoc, Hop, Hon, Hod⟩
  -- the own slots filled
  iapply load_wq $$ HWq; iintro HWq
  iapply (load_q_any (k0_off1_eq c)) $$ Hqc; iintro %_ Hqc
  iapply (store_q m (k0_off1_eq c)) $$ Hqc; iintro Hqc
  iapply load_wo $$ HWo; iintro HWo
  iapply (load_o_any (k0_off2_eq c)) $$ Hoc; iintro %_ Hoc
  iapply (store_o m (k0_off2_eq c)) $$ Hoc; iintro Hoc
  iapply load_x $$ HX; iintro HX
  -- the two signals, each lending a neighbour the pieces it writes here
  simp only [dev1_is, dev2_is]
  ihave Hqd := (Entails.of_eq (q_half c (dia c) fullShare fq)) $$ Hqd
  ihave Hod := (Entails.of_eq (o_half c (dia c) fullShare fo)) $$ Hod
  icases Hqd with ⟨HqdL, HqdH⟩
  icases Hod with ⟨HodL, HodH⟩
  iapply (Rounds.wp_signal 𝒱₀ ER (talkRd m) (c : Thread nD τ) none (dst := (prv c : Thread nD τ)) (sem := barS) (r := 0) (d := true) (κ := κ (barCell (prv c)))
      (by rw [duties_bar]; exact Finset.mem_univ _) ((amount_bar m (prv c) true).trans (by decide)) () (owed c 9) rfl)
    $$ [HO HtP Hqp Hop HqdL HodL]
  · isplitr; · iapply (inv_at m κ (bar_mem (prv c))); iexact HR
    isplitl [HO]; · iexact HO
    isplitl [HtP]; · iexact HtP
    isplitl [Hqp Hop HqdL HodL]
    · iapply (give_left m c fq fo) $$ [Hqp Hop HqdL HodL]
      isplitl [Hqp]; · iexact Hqp
      isplitl [Hop]; · iexact Hop
      isplitl [HqdL]; · iexact HqdL
      isplitl [HodL]; · iexact HodL
      isplitr; · iexact HrV0
      isplitr; · iexact HrV1
      isplitr; · iexact HrV4
      iexact HrV5
    · iapply (reached_at m κ (prv c)); iexact HR
  iintro HO
  iapply (Rounds.wp_signal 𝒱₀ ER (talkRd m) (c : Thread nD τ) none (dst := (nxt c : Thread nD τ)) (sem := barS) (r := 0) (d := false) (κ := κ (barCell (nxt c)))
      (by rw [duties_bar]; exact Finset.mem_univ _) ((amount_bar m (nxt c) false).trans (by decide)) () (owed c 8) rfl)
    $$ [HO HtN Hqn Hon HqdH HodH]
  · isplitr; · iapply (inv_at m κ (bar_mem (nxt c))); iexact HR
    isplitl [HO]; · iexact HO
    isplitl [HtN]; · iexact HtN
    isplitl [Hqn Hon HqdH HodH]
    · iapply (give_right m c fq fo) $$ [Hqn Hon HqdH HodH]
      isplitl [Hqn]; · iexact Hqn
      isplitl [Hon]; · iexact Hon
      isplitl [HqdH]; · iexact HqdH
      isplitl [HodH]; · iexact HodH
      isplitr; · iexact HrV2
      isplitr; · iexact HrV3
      isplitr; · iexact HrV6
      iexact HrV7
    · iapply (reached_at m κ (nxt c)); iexact HR
  iintro HO
  -- the barrier: both neighbours' pieces come
  iapply (wait_bar m κ c W) $$ [HcB HO HatB]
  · isplitr; · iexact HR
    isplitl [HcB]; · iexact HcB
    isplitl [HO]; · iexact HO
    isplitr; · iexact Hlev
    iexact HatB
  iintro ⟨HO, HatB, Hp⟩
  unfold barPayL barPayR
  icases Hp with ⟨⟨HqL, HoL, HqLH, HoLH, #HrT2, #HrT3, #HrT6, #HrT7⟩, HqR, HoR, HqRL, HoRL, #HrT0, #HrT1, #HrT4, #HrT5⟩
  -- the own slot in three shares; a copy of it to each neighbour
  ihave Hqc := (Entails.of_eq (q_three c (qSlot c) (gQ m))) $$ Hqc
  ihave Hoc := (Entails.of_eq (o_three c (oSlot c) (gO m))) $$ Hoc
  icases Hqc with ⟨HqcR, HqcL, Hqc⟩
  icases Hoc with ⟨HocR, HocL, Hoc⟩
  iapply (send_q m κ c _ 0 (dev3_is c) (S := qSlot c) (set_qSlot (j := c) (k0_off3_eq c) _) 7 rfl rfl rfl rfl (pay0 m c) _) $$ [HqcR HqR HO HtS0 HtV0]
  · isplitr; · iexact HR
    isplitl [HqcR]; · iexact HqcR
    isplitl [HqR]; · iexact HqR
    isplitl [HO]; · iexact HO
    isplitl [HtS0]; · iexact HtS0
    isplitr; · iexact HrS0
    isplitl [HtV0]; · iexact HtV0
    iexact HrT0
  iintro ⟨HcS0, HO⟩
  iapply (send_o m κ c _ 1 (dev4_is c) (S := oSlot c) (set_oSlot (j := c) (k0_off4_eq c) _) 6 rfl rfl rfl rfl (pay1 m c) _) $$ [HocR HoR HO HtS1 HtV1]
  · isplitr; · iexact HR
    isplitl [HocR]; · iexact HocR
    isplitl [HoR]; · iexact HoR
    isplitl [HO]; · iexact HO
    isplitl [HtS1]; · iexact HtS1
    isplitr; · iexact HrS1
    isplitl [HtV1]; · iexact HtV1
    iexact HrT1
  iintro ⟨HcS1, HO⟩
  iapply (send_q m κ c _ 2 (dev5_is c) (S := qSlot c) (set_qSlot (j := c) (k0_off3_eq c) _) 5 rfl rfl rfl rfl (pay2 m c) _) $$ [HqcL HqL HO HtS2 HtV2]
  · isplitr; · iexact HR
    isplitl [HqcL]; · iexact HqcL
    isplitl [HqL]; · iexact HqL
    isplitl [HO]; · iexact HO
    isplitl [HtS2]; · iexact HtS2
    isplitr; · iexact HrS2
    isplitl [HtV2]; · iexact HtV2
    iexact HrT2
  iintro ⟨HcS2, HO⟩
  iapply (send_o m κ c _ 3 (dev6_is c) (S := oSlot c) (set_oSlot (j := c) (k0_off4_eq c) _) 4 rfl rfl rfl rfl (pay3 m c) _) $$ [HocL HoL HO HtS3 HtV3]
  · isplitr; · iexact HR
    isplitl [HocL]; · iexact HocL
    isplitl [HoL]; · iexact HoL
    isplitl [HO]; · iexact HO
    isplitl [HtS3]; · iexact HtS3
    isplitr; · iexact HrS3
    isplitl [HtV3]; · iexact HtV3
    iexact HrT3
  iintro ⟨HcS3, HO⟩
  -- the own chunk's blocks
  iapply (load_q m (k0_off1_eq c)) $$ Hqc; iintro Hqc
  iapply (load_o m (k0_off2_eq c)) $$ Hoc; iintro Hoc
  iapply (load_k (k0_off5_eq c)) $$ HK; iintro HK
  iapply (load_v (k0_off5_eq c)) $$ HV; iintro HV
  -- the left neighbour's slot arrives; its first halves go on to the right
  iapply (wait_recv m κ c 0 (owed c 4) _ rfl) $$ [HcV0 HO HaV0]
  · isplitr; · iexact HR
    isplitl [HcV0]; · iexact HcV0
    isplitl [HO]; · iexact HO
    isplitr; · iapply (mayWait_recv c 0 (by decide) 4 (by decide)); iexact Hlev
    iexact HaV0
  iintro ⟨HO, HaV0, Hqp⟩
  ihave Hqp := (Entails.of_eq (show recvPay m c 0 = qPts c (qSlot (prv c)) fullShare (gQ m) from rfl)) $$ Hqp
  iapply (wait_recv m κ c 1 (owed c 4) _ rfl) $$ [HcV1 HO HaV1]
  · isplitr; · iexact HR
    isplitl [HcV1]; · iexact HcV1
    isplitl [HO]; · iexact HO
    isplitr; · iapply (mayWait_recv c 1 (by decide) 4 (by decide)); iexact Hlev
    iexact HaV1
  iintro ⟨HO, HaV1, Hop⟩
  ihave Hop := (Entails.of_eq (show recvPay m c 1 = oPts c (oSlot (prv c)) fullShare (gO m) from rfl)) $$ Hop
  ihave Hqp := (Entails.of_eq (q_forward c (prv c) (gQ m))) $$ Hqp
  ihave Hop := (Entails.of_eq (o_forward c (prv c) (gO m))) $$ Hop
  icases Hqp with ⟨⟨HqpF, HqpH⟩, Hqp⟩
  icases Hop with ⟨⟨HopF, HopH⟩, Hop⟩
  iapply (send_q m κ c _ 4 (dev7_is c) (S := qLo (prv c)) (set_qLo (j := (prv c)) (k0_off6_eq c) _) 3 rfl rfl rfl rfl (pay4 m c) _) $$ [HqpF HqRL HO HtS4 HtV4]
  · isplitr; · iexact HR
    isplitl [HqpF]; · iexact HqpF
    isplitl [HqRL]; · iexact HqRL
    isplitl [HO]; · iexact HO
    isplitl [HtS4]; · iexact HtS4
    isplitr; · iexact HrS4
    isplitl [HtV4]; · iexact HtV4
    iexact HrT4
  iintro ⟨HcS4, HO⟩
  iapply (send_o m κ c _ 5 (dev8_is c) (S := oLo (prv c)) (set_oLo (j := (prv c)) (k0_off7_eq c) _) 2 rfl rfl rfl rfl (pay5 m c) _) $$ [HopF HoRL HO HtS5 HtV5]
  · isplitr; · iexact HR
    isplitl [HopF]; · iexact HopF
    isplitl [HoRL]; · iexact HoRL
    isplitl [HO]; · iexact HO
    isplitl [HtS5]; · iexact HtS5
    isplitr; · iexact HrS5
    isplitl [HtV5]; · iexact HtV5
    iexact HrT5
  iintro ⟨HcS5, HO⟩
  -- the right neighbour's slot arrives; its second halves go on to the left
  iapply (wait_recv m κ c 2 (owed c 2) _ rfl) $$ [HcV2 HO HaV2]
  · isplitr; · iexact HR
    isplitl [HcV2]; · iexact HcV2
    isplitl [HO]; · iexact HO
    isplitr; · iapply (mayWait_recv c 2 (by decide) 2 (by decide)); iexact Hlev
    iexact HaV2
  iintro ⟨HO, HaV2, Hqn⟩
  ihave Hqn := (Entails.of_eq (show recvPay m c 2 = qPts c (qSlot (nxt c)) fullShare (gQ m) from rfl)) $$ Hqn
  iapply (wait_recv m κ c 3 (owed c 2) _ rfl) $$ [HcV3 HO HaV3]
  · isplitr; · iexact HR
    isplitl [HcV3]; · iexact HcV3
    isplitl [HO]; · iexact HO
    isplitr; · iapply (mayWait_recv c 3 (by decide) 2 (by decide)); iexact Hlev
    iexact HaV3
  iintro ⟨HO, HaV3, Hon⟩
  ihave Hon := (Entails.of_eq (show recvPay m c 3 = oPts c (oSlot (nxt c)) fullShare (gO m) from rfl)) $$ Hon
  ihave Hqn := (Entails.of_eq (q_forward c (nxt c) (gQ m))) $$ Hqn
  ihave Hon := (Entails.of_eq (o_forward c (nxt c) (gO m))) $$ Hon
  icases Hqn with ⟨⟨HqnL, HqnF⟩, Hqn⟩
  icases Hon with ⟨⟨HonL, HonF⟩, Hon⟩
  iapply (send_q m κ c _ 6 (dev9_is c) (S := qHi (nxt c)) (set_qHi (j := (nxt c)) (k0_off8_eq c) _) 1 rfl rfl rfl rfl (pay6 m c) _) $$ [HqnF HqLH HO HtS6 HtV6]
  · isplitr; · iexact HR
    isplitl [HqnF]; · iexact HqnF
    isplitl [HqLH]; · iexact HqLH
    isplitl [HO]; · iexact HO
    isplitl [HtS6]; · iexact HtS6
    isplitr; · iexact HrS6
    isplitl [HtV6]; · iexact HtV6
    iexact HrT6
  iintro ⟨HcS6, HO⟩
  iapply (send_o m κ c _ 7 (dev10_is c) (S := oHi (nxt c)) (set_oHi (j := (nxt c)) (k0_off9_eq c) _) 0 rfl rfl rfl rfl (pay7 m c) _) $$ [HonF HoLH HO HtS7 HtV7]
  · isplitr; · iexact HR
    isplitl [HonF]; · iexact HonF
    isplitl [HoLH]; · iexact HoLH
    isplitl [HO]; · iexact HO
    isplitl [HtS7]; · iexact HtS7
    isplitr; · iexact HrS7
    isplitl [HtV7]; · iexact HtV7
    iexact HrT7
  iintro ⟨HcS7, HO⟩
  -- the neighbours' chunks' blocks, the left one's first
  iapply (load_q m (q_left c)) $$ Hqp; iintro Hqp
  iapply (load_o m (o_left c)) $$ Hop; iintro Hop
  iapply (load_k (h_left c)) $$ HK; iintro HK
  iapply (load_v (h_left c)) $$ HV; iintro HV
  iapply (load_q m (q_right c)) $$ Hqn; iintro Hqn
  iapply (load_o m (o_right c)) $$ Hon; iintro Hon
  iapply (load_k (h_right c)) $$ HK; iintro HK
  iapply (load_v (h_right c)) $$ HV; iintro HV
  -- the slot of the device opposite arrives in halves
  iapply (wait_recv m κ c 4 (owed c 0) _ rfl) $$ [HcV4 HO HaV4]
  · isplitr; · iexact HR
    isplitl [HcV4]; · iexact HcV4
    isplitl [HO]; · iexact HO
    isplitr; · iapply (mayWait_none c (recvS 4)); iempintro
    iexact HaV4
  iintro ⟨HO, HaV4, HqdL⟩
  ihave HqdL := (Entails.of_eq (show recvPay m c 4 = qPts c (qLo (dia c)) fullShare (gQ m) from rfl)) $$ HqdL
  iapply (wait_recv m κ c 5 (owed c 0) _ rfl) $$ [HcV5 HO HaV5]
  · isplitr; · iexact HR
    isplitl [HcV5]; · iexact HcV5
    isplitl [HO]; · iexact HO
    isplitr; · iapply (mayWait_none c (recvS 5)); iempintro
    iexact HaV5
  iintro ⟨HO, HaV5, HodL⟩
  ihave HodL := (Entails.of_eq (show recvPay m c 5 = oPts c (oLo (dia c)) fullShare (gO m) from rfl)) $$ HodL
  iapply (wait_recv m κ c 6 (owed c 0) _ rfl) $$ [HcV6 HO HaV6]
  · isplitr; · iexact HR
    isplitl [HcV6]; · iexact HcV6
    isplitl [HO]; · iexact HO
    isplitr; · iapply (mayWait_none c (recvS 6)); iempintro
    iexact HaV6
  iintro ⟨HO, HaV6, HqdH⟩
  ihave HqdH := (Entails.of_eq (show recvPay m c 6 = qPts c (qHi (dia c)) fullShare (gQ m) from rfl)) $$ HqdH
  iapply (wait_recv m κ c 7 (owed c 0) _ rfl) $$ [HcV7 HO HaV7]
  · isplitr; · iexact HR
    isplitl [HcV7]; · iexact HcV7
    isplitl [HO]; · iexact HO
    isplitr; · iapply (mayWait_none c (recvS 7)); iempintro
    iexact HaV7
  iintro ⟨HO, HaV7, HodH⟩
  ihave HodH := (Entails.of_eq (show recvPay m c 7 = oPts c (oHi (dia c)) fullShare (gO m) from rfl)) $$ HodH
  ihave Hqd := (Entails.of_eq (q_half c (dia c) fullShare (gQ m)).symm) $$ [HqdL HqdH]
  · isplitl [HqdL]; · iexact HqdL
    iexact HqdH
  ihave Hod := (Entails.of_eq (o_half c (dia c) fullShare (gO m)).symm) $$ [HodL HodH]
  · isplitl [HodL]; · iexact HodL
    iexact HodH
  iapply (load_q m (q_dia c)) $$ Hqd; iintro Hqd
  iapply (load_o m (o_dia c)) $$ Hod; iintro Hod
  iapply (load_k (h_dia c)) $$ HK; iintro HK
  iapply (load_v (h_dia c)) $$ HV; iintro HV
  -- the result
  iapply load_out $$ Hout; iintro Hout
  iapply store_out $$ Hout; iintro Hout
  -- every share lent comes back
  iapply (wait_send m κ c 0 _ rfl) $$ [HcS0 HO HaS0]
  · isplitr; · iexact HR
    isplitl [HcS0]; · iexact HcS0
    isplitl [HO]; · iexact HO
    iexact HaS0
  iintro ⟨HO, HaS0, HqcR⟩
  ihave HqcR := (Entails.of_eq (show sendPay m c 0 = qPts c (qSlot c) shR (gQ m) from rfl)) $$ HqcR
  iapply (wait_send m κ c 1 _ rfl) $$ [HcS1 HO HaS1]
  · isplitr; · iexact HR
    isplitl [HcS1]; · iexact HcS1
    isplitl [HO]; · iexact HO
    iexact HaS1
  iintro ⟨HO, HaS1, HocR⟩
  ihave HocR := (Entails.of_eq (show sendPay m c 1 = oPts c (oSlot c) shR (gO m) from rfl)) $$ HocR
  iapply (wait_send m κ c 2 _ rfl) $$ [HcS2 HO HaS2]
  · isplitr; · iexact HR
    isplitl [HcS2]; · iexact HcS2
    isplitl [HO]; · iexact HO
    iexact HaS2
  iintro ⟨HO, HaS2, HqcL⟩
  ihave HqcL := (Entails.of_eq (show sendPay m c 2 = qPts c (qSlot c) shL (gQ m) from rfl)) $$ HqcL
  iapply (wait_send m κ c 3 _ rfl) $$ [HcS3 HO HaS3]
  · isplitr; · iexact HR
    isplitl [HcS3]; · iexact HcS3
    isplitl [HO]; · iexact HO
    iexact HaS3
  iintro ⟨HO, HaS3, HocL⟩
  ihave HocL := (Entails.of_eq (show sendPay m c 3 = oPts c (oSlot c) shL (gO m) from rfl)) $$ HocL
  iapply (wait_send m κ c 4 _ rfl) $$ [HcS4 HO HaS4]
  · isplitr; · iexact HR
    isplitl [HcS4]; · iexact HcS4
    isplitl [HO]; · iexact HO
    iexact HaS4
  iintro ⟨HO, HaS4, HqpF⟩
  ihave HqpF := (Entails.of_eq (show sendPay m c 4 = qPts c (qLo (prv c)) shR (gQ m) from rfl)) $$ HqpF
  iapply (wait_send m κ c 5 _ rfl) $$ [HcS5 HO HaS5]
  · isplitr; · iexact HR
    isplitl [HcS5]; · iexact HcS5
    isplitl [HO]; · iexact HO
    iexact HaS5
  iintro ⟨HO, HaS5, HopF⟩
  ihave HopF := (Entails.of_eq (show sendPay m c 5 = oPts c (oLo (prv c)) shR (gO m) from rfl)) $$ HopF
  iapply (wait_send m κ c 6 _ rfl) $$ [HcS6 HO HaS6]
  · isplitr; · iexact HR
    isplitl [HcS6]; · iexact HcS6
    isplitl [HO]; · iexact HO
    iexact HaS6
  iintro ⟨HO, HaS6, HqnF⟩
  ihave HqnF := (Entails.of_eq (show sendPay m c 6 = qPts c (qHi (nxt c)) shR (gQ m) from rfl)) $$ HqnF
  iapply (wait_send m κ c 7 _ rfl) $$ [HcS7 HO HaS7]
  · isplitr; · iexact HR
    isplitl [HcS7]; · iexact HcS7
    isplitl [HO]; · iexact HO
    iexact HaS7
  iintro ⟨HO, HaS7, HonF⟩
  ihave HonF := (Entails.of_eq (show sendPay m c 7 = oPts c (oHi (nxt c)) shR (gO m) from rfl)) $$ HonF
  -- the cells are closed
  imod (Rounds.cell_close ER (talkRd m) (Set.mem_univ (κ (barCell c))) (fun h => h) (R := 0 + 1) (duties_later m (barCell c))) $$ [HatB] with HzB
  · isplitr; · iapply (inv_at m κ (bar_mem c)); iexact HR
    iexact HatB
  imod (close_cell m κ (send_mem c 0)) $$ [HaS0] with HzS0
  · isplitr; · iexact HR
    iexact HaS0
  imod (close_cell m κ (send_mem c 1)) $$ [HaS1] with HzS1
  · isplitr; · iexact HR
    iexact HaS1
  imod (close_cell m κ (send_mem c 2)) $$ [HaS2] with HzS2
  · isplitr; · iexact HR
    iexact HaS2
  imod (close_cell m κ (send_mem c 3)) $$ [HaS3] with HzS3
  · isplitr; · iexact HR
    iexact HaS3
  imod (close_cell m κ (send_mem c 4)) $$ [HaS4] with HzS4
  · isplitr; · iexact HR
    iexact HaS4
  imod (close_cell m κ (send_mem c 5)) $$ [HaS5] with HzS5
  · isplitr; · iexact HR
    iexact HaS5
  imod (close_cell m κ (send_mem c 6)) $$ [HaS6] with HzS6
  · isplitr; · iexact HR
    iexact HaS6
  imod (close_cell m κ (send_mem c 7)) $$ [HaS7] with HzS7
  · isplitr; · iexact HR
    iexact HaS7
  imod (close_cell m κ (recv_mem c 0)) $$ [HaV0] with HzV0
  · isplitr; · iexact HR
    iexact HaV0
  imod (close_cell m κ (recv_mem c 1)) $$ [HaV1] with HzV1
  · isplitr; · iexact HR
    iexact HaV1
  imod (close_cell m κ (recv_mem c 2)) $$ [HaV2] with HzV2
  · isplitr; · iexact HR
    iexact HaV2
  imod (close_cell m κ (recv_mem c 3)) $$ [HaV3] with HzV3
  · isplitr; · iexact HR
    iexact HaV3
  imod (close_cell m κ (recv_mem c 4)) $$ [HaV4] with HzV4
  · isplitr; · iexact HR
    iexact HaV4
  imod (close_cell m κ (recv_mem c 5)) $$ [HaV5] with HzV5
  · isplitr; · iexact HR
    iexact HaV5
  imod (close_cell m κ (recv_mem c 6)) $$ [HaV6] with HzV6
  · isplitr; · iexact HR
    iexact HaV6
  imod (close_cell m κ (recv_mem c 7)) $$ [HaV7] with HzV7
  · isplitr; · iexact HR
    iexact HaV7
  -- and the slots put back together
  ihave Hq := (q_back c (gQ m)) $$ [HqcR HqcL Hqc HqpF HqpH Hqp HqnL HqnF Hqn Hqd]
  · isplitl [HqcR]; · iexact HqcR
    isplitl [HqcL]; · iexact HqcL
    isplitl [Hqc]; · iexact Hqc
    isplitl [HqpF]; · iexact HqpF
    isplitl [HqpH]; · iexact HqpH
    isplitl [Hqp]; · iexact Hqp
    isplitl [HqnL]; · iexact HqnL
    isplitl [HqnF]; · iexact HqnF
    isplitl [Hqn]; · iexact Hqn
    iexact Hqd
  ihave Ho := (o_back c (gO m)) $$ [HocR HocL Hoc HopF HopH Hop HonL HonF Hon Hod]
  · isplitl [HocR]; · iexact HocR
    isplitl [HocL]; · iexact HocL
    isplitl [Hoc]; · iexact Hoc
    isplitl [HopF]; · iexact HopF
    isplitl [HopH]; · iexact HopH
    isplitl [Hop]; · iexact Hop
    isplitl [HonL]; · iexact HonL
    isplitl [HonF]; · iexact HonF
    isplitl [Hon]; · iexact Hon
    iexact Hod
  rw [wp_ret]; imodintro; iapply Hk
  unfold bodyPost
  simp only [bigSep_fin8]
  isplitl [HzB]; · iexact HzB
  isplitl [HzS0 HzS1 HzS2 HzS3 HzS4 HzS5 HzS6 HzS7]
  · isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    iexact HzS7
  isplitl [HzV0 HzV1 HzV2 HzV3 HzV4 HzV5 HzV6 HzV7]
  · isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    isplitl [HzV6]; · iexact HzV6
    iexact HzV7
  isplitl [Hq]; · iexists gQ m; iexact Hq
  isplitl [Ho]; · iexists gO m; iexact Ho
  isplitl [HX]; · iexact HX
  isplitl [HWq]; · iexact HWq
  isplitl [HK]; · iexact HK
  isplitl [HV]; · iexact HV
  isplitl [HWo]; · iexact HWo
  isplitl [Hout]; · iexact Hout
  iexists _; iexact HO

end Cert.RingAttn

end
-- ==== Proof.Region.lean ====
/-
# The call's record

The proof data of the one kernel call — the six staged arrays, what the body leaves in each, the ghost state before and
after the one grid point — its body obligation from `body_run`, and the record of the call as a segment of `main`: the
copies' sixteen cells of each device are opened as the call is entered, from the counters the call brings with it.
-/
module

public import proofs.«01_k».proof.Proof.Body

@[expose] public section

set_option maxRecDepth 16384

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The buffers' contents around the call -/

abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v3) (outAt m c)
theorem V₂_out (c : Dev nD) : V₂ m c main_v3 = outAt m c := Function.update_self ..
theorem V₂_ne (c : Dev nD) (b : DevRef τ sig) (h : b ≠ Proc.devRef .tc main_v3) : V₂ m c b = V₁ m c b := Function.update_of_ne h ..

/-! ## The copies' cells, listed on a side each -/

/-- The numbered semaphores are the eight of the sending side, then the eight of the receiving side. -/
theorem both_sides (Φ : SemLoc sig → sProp 𝕄) :
    bigSep Finset.univ (fun k : Fin 16 => Φ (osem k))
      = iprop((bigSep Finset.univ fun k : Fin 8 => Φ (.dma (sendS k))) ∗ bigSep Finset.univ fun k : Fin 8 => Φ (.dma (recvS k))) := by
  rw [bigSep_univ_equiv (finSumFinEquiv (m := 8) (n := 8)) (fun k : Fin 16 => Φ (osem k)), BI.bigSep_univ_sum]
  refine congrArg₂ _ (bigSep_congr fun k _ => rfl) (bigSep_congr fun k _ => congrArg (fun q => Φ (.dma q)) (Fin.ext ?_))
  show 6 + (8 + k.val) = 14 + k.val
  omega

theorem ownSems_eq (c : Dev nD) : (Pipeline.ownSems0 osem c : sProp 𝕄)
    = iprop((bigSep Finset.univ fun k : Fin 8 => semVal (sendCell c k) 0) ∗ bigSep Finset.univ fun k : Fin 8 => semVal (recvCell c k) 0) :=
  both_sides (F := F) fun s => semVal ((c : Thread nD τ), s) 0

/-! ## The ghost state around the call -/

/-- What stays with device `c` from the launch: its barrier position, its rights to open, the tokens of what it pays. -/
def linear (c : Dev nD) : sProp 𝕄 :=
  iprop(atPos ER (barCell c) 0 ∅ 0
    ∗ ((bigSep Finset.univ fun k : Fin 8 => openTok ER (sendCell c k)) ∗ bigSep Finset.univ fun k : Fin 8 => openTok ER (recvCell c k))
    ∗ payToks c)

/-- The protocol's state on the way to the call, inside it before its point, inside it after, and past it. -/
def Tk (c : Dev nD) : sProp 𝕄 := iprop((∃ κ, records m κ ∗ linear c) ∗ creds c)
def Xk (c : Dev nD) : sProp 𝕄 := iprop((∃ κ, records m κ ∗ atPos ER (barCell c) 0 ∅ 0 ∗ opened c ∗ payToks c) ∗ creds c ∗ levAts L lv)
def Yk (c : Dev nD) : sProp 𝕄 := semVal (barCell c) 0

/-- One cell opened. -/
theorem open_cell (κ : GSem nD τ sig → ℕ) {g : GSem nD τ sig} (hg : g ∈ (barCells ∪ scCells : Finset (GSem nD τ sig))) :
    iprop(records m κ ∗ (openTok ER g ∗ semVal g 0)) ⊢ (iprop(|={Set.univ}=> (atPos ER g 0 ∅ 0 ∗ reached ER g 0)) : sProp 𝕄) := by
  iintro ⟨#HR, Ho, Hv⟩
  iapply (Rounds.cell_open ER (talkRd m) (g := g) (Set.mem_univ (κ g)))
  isplitr; · iapply (inv_at m κ hg); iexact HR
  isplitl [Ho] <;> iassumption

/-- Eight cells opened. -/
theorem open_side (κ : GSem nD τ sig → ℕ) (g : Fin 8 → GSem nD τ sig) (hg : ∀ k, g k ∈ (barCells ∪ scCells : Finset (GSem nD τ sig))) :
    iprop(records m κ ∗ ((bigSep Finset.univ fun k => openTok ER (g k)) ∗ bigSep Finset.univ fun k => semVal (g k) 0))
      ⊢ (iprop(|={Set.univ}=> bigSep Finset.univ fun k => iprop(atPos ER (g k) 0 ∅ 0 ∗ reached ER (g k) 0)) : sProp 𝕄) := by
  have h := (bigSep_with_persistent (R := records m κ) (S := Finset.univ) (Φ := fun k => iprop(openTok ER (g k) ∗ semVal (g k) 0))
      (Ψ := fun k => iprop(|={Set.univ}=> (atPos ER (g k) 0 ∅ 0 ∗ reached ER (g k) 0))) fun k _ => open_cell m κ (hg k)).trans
    (bigSep_fupd _ _)
  iintro ⟨#HR, Ho, Hv⟩
  iapply h
  isplitr; · iexact HR
  iapply (Entails.of_eq (bigSep_sep' Finset.univ (fun k => (openTok ER (g k) : sProp 𝕄)) fun k => semVal (g k) 0).symm)
  isplitl [Ho] <;> iassumption

theorem hopen (c : Dev nD) : iprop(Tk m c ∗ Pipeline.ownSems0 osem c ∗ levAts L lv) ⊢ (|={Set.univ}=> Xk m c : sProp 𝕄) := by
  rw [ownSems_eq]
  unfold Tk Xk linear
  iintro ⟨⟨⟨%κ, #HR, HaB, ⟨HoS, HoV⟩, Hpay⟩, Hcr⟩, ⟨HvS, HvV⟩, #Hlev⟩
  imod (open_side m κ (sendCell c) (send_mem c)) $$ [HoS HvS] with HS
  · isplitr; · iexact HR
    isplitl [HoS] <;> iassumption
  imod (open_side m κ (recvCell c) (recv_mem c)) $$ [HoV HvV] with HV
  · isplitr; · iexact HR
    isplitl [HoV] <;> iassumption
  imodintro
  isplitr [Hcr]
  · iexists κ
    isplitr; · iexact HR
    isplitl [HaB]; · iexact HaB
    isplitl [HS HV]; · unfold opened; isplitl [HS] <;> iassumption
    iexact Hpay
  isplitl [Hcr]; · iexact Hcr
  iexact Hlev

/-! ## The proof data -/

/-- The two gathered buffers, at contents not chosen. -/
abbrev slotsAny (c : Dev nD) : sProp 𝕄 := iprop((∃ f, qPts c Finset.univ fullShare f) ∗ ∃ f, oPts c Finset.univ fullShare f)
theorem scopedRest_slots (c : Dev nD) : (Pipeline.scopedRest (Ix := Unit) (Name := ℕ) (U := UU) (Lvl := ℕ) (Val := Elt F) spec0 c : sProp 𝕄) = slotsAny c :=
  scopedRest0_eq c

/-- The call's invariant before its point and after. -/
def Φin (c : Dev nD) : sProp 𝕄 := iprop(Xk m c ∗ slotsAny c ∗ ∃ r, prngReg c r)
def Φout (c : Dev nD) : sProp 𝕄 := iprop(Yk c ∗ Pipeline.ownSems0 osem c ∗ slotsAny c ∗ ∃ r, prngReg c r)

def dat0 (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun _ => outAt m c
    | ⟨_ + 6, h⟩ => absurd h (Nat.not_lt.2 (Nat.le_add_left _ _))
  Φ t := if t.val = 0 then Φin m c else Φout c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem share_full (c : Dev nD) (w : Fin 6) : (dat0 m c).share w = fullShare := by unfold Dat.share; split <;> rfl

theorem Φ_first (c : Dev nD) : (dat0 m c).Φ t0_0.castSucc = Φin m c := by
  show (if (t0_0.castSucc : Fin (cfg0.N + 1)).val = 0 then Φin m c else Φout c) = _; exact if_pos rfl
theorem Φ_then (c : Dev nD) : (dat0 m c).Φ t0_0.succ = Φout c := by
  show (if (t0_0.succ : Fin (cfg0.N + 1)).val = 0 then Φin m c else Φout c) = _; exact if_neg (by rw [Fin.val_succ]; omega)
theorem owed_first (c : Dev nD) : (dat0 m c).owed t0_0.castSucc = O₀ c := by
  show (if (t0_0.castSucc : Fin (cfg0.N + 1)).val = 0 then O₀ c else 0) = _; exact if_pos rfl
theorem owed_then (c : Dev nD) : (dat0 m c).owed t0_0.succ = 0 := by
  show (if (t0_0.succ : Fin (cfg0.N + 1)).val = 0 then O₀ c else 0) = _; exact if_neg (by rw [Fin.val_succ]; omega)
theorem last_pos : (Fin.last cfg0.N).val ≠ 0 := by rw [Fin.val_last, show cfg0.N = 1 from N_0]; decide
theorem Φ_last (c : Dev nD) : (dat0 m c).Φ (Fin.last cfg0.N) = Φout c := by
  show (if (Fin.last cfg0.N).val = 0 then Φin m c else Φout c) = _; exact if_neg last_pos
theorem owed_last (c : Dev nD) : (dat0 m c).owed (Fin.last cfg0.N) = 0 := by
  show (if (Fin.last cfg0.N).val = 0 then O₀ c else 0) = _; exact if_neg last_pos

theorem owes_in (c : Dev nD) : ((dat0 m c).owesAt () t0_0.castSucc : sProp 𝕄) ⊢ iprop(∃ W, owes (c : Thread nD τ) (O₀ c) W) := by
  unfold Dat.owesAt Pipeline.owesWithin; rw [owed_first]
  iintro ⟨%W, -, HO⟩; iexists W; iexact HO
theorem owes_out (c : Dev nD) (W : Waits sig Unit) :
    (owes (c : Thread nD τ) (0 : CellTallies nD τ sig Unit) W : sProp 𝕄) ⊢ ((dat0 m c).owesAt () t0_0.succ : sProp 𝕄) := by
  unfold Dat.owesAt Pipeline.owesWithin Dat.bound; rw [owed_then]
  iintro HO; iexists W; isplitr; · ipureintro; exact fun _ _ => Or.inl trivial
  iexact HO

/-- An input window's staging buffer holds its block. -/
theorem before_0 (c : Dev nD) (d) : (dat0 m c).before 0 t0_0 d = iblk m c 0 t0_0 :=
  ((dat0 m c).before_in_eq_fetched 0 rfl (fun _ => rfl) (fun _ _ _ => rfl) (fun _ => rfl) t0_0 d).trans rfl
theorem before_1 (c : Dev nD) (d) : (dat0 m c).before 1 t0_0 d = iblk m c 1 t0_0 :=
  ((dat0 m c).before_in_eq_fetched 1 rfl (fun _ => rfl) (fun _ _ _ => rfl) (fun _ => rfl) t0_0 d).trans rfl
theorem before_2 (c : Dev nD) (d) : (dat0 m c).before 2 t0_0 d = iblk m c 2 t0_0 :=
  ((dat0 m c).before_in_eq_fetched 2 rfl (fun _ => rfl) (fun _ _ _ => rfl) (fun _ => rfl) t0_0 d).trans rfl
theorem before_3 (c : Dev nD) (d) : (dat0 m c).before 3 t0_0 d = iblk m c 3 t0_0 :=
  ((dat0 m c).before_in_eq_fetched 3 rfl (fun _ => rfl) (fun _ _ _ => rfl) (fun _ => rfl) t0_0 d).trans rfl
theorem before_4 (c : Dev nD) (d) : (dat0 m c).before 4 t0_0 d = iblk m c 4 t0_0 :=
  ((dat0 m c).before_in_eq_fetched 4 rfl (fun _ => rfl) (fun _ _ _ => rfl) (fun _ => rfl) t0_0 d).trans rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stgPts c b X := by
  have e : (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ stgPts c b f) := by
    unfold owns; simp only [Memref.view_whole, View.read_whole, View.set_whole]
  have h₁ : iprop(∃ f : Buf (Elt F) (((c : Dev nD) : Thread nD τ).loc b), ⌜f = X⌝ ∗ stgPts c b f) ⊢ (stgPts c b X : sProp 𝕄) := by
    iintro ⟨%f, %h, H⟩; subst h; iexact H
  have h₂ : (stgPts c b X : sProp 𝕄) ⊢ iprop(∃ f : Buf (Elt F) (((c : Dev nD) : Thread nD τ).loc b), ⌜f = X⌝ ∗ stgPts c b f) := by
    iintro H; iexists X; isplitr; · ipureintro; rfl
    iexact H
  exact e.trans (BI.Entails.antisymm h₁ h₂)

/-! ## The body obligation -/

theorem body_obligation (c : Dev nD) : BodyObligation (dat0 m c) (defs₀ (F := F)) 𝒱₀ () Set.univ := fun t => by
  obtain rfl := fin_N0 t
  rw [bigSep_W0, bigSep_W0, Φ_first, Φ_then]
  simp only [before_0, before_1, before_2, before_3, before_4]
  show iprop(Φin m c ∗ (dat0 m c).owesAt () t0_0.castSucc
      ∗ (∃ d, owns (c : Thread nD τ) (Memref.whole cc0_stg0_0) fullShare (inX m c)) ∗ (∃ d, owns (c : Thread nD τ) (Memref.whole cc0_stg1_0) fullShare (inQ m c))
      ∗ (∃ d, owns (c : Thread nD τ) (Memref.whole cc0_stg2_0) fullShare (inK m c)) ∗ (∃ d, owns (c : Thread nD τ) (Memref.whole cc0_stg3_0) fullShare (inV m c))
      ∗ (∃ d, owns (c : Thread nD τ) (Memref.whole cc0_stg4_0) fullShare (inO m c)) ∗ (∃ d, owns (c : Thread nD τ) (Memref.whole cc0_stg5_0) fullShare ((dat0 m c).before 5 t0_0 d)))
    ⊢ run c (theBody (F := F)) (fun _ => iprop(Φout c ∗ (dat0 m c).owesAt () t0_0.succ
      ∗ owns (c : Thread nD τ) (Memref.whole cc0_stg0_0) fullShare (inX m c) ∗ owns (c : Thread nD τ) (Memref.whole cc0_stg1_0) fullShare (inQ m c)
      ∗ owns (c : Thread nD τ) (Memref.whole cc0_stg2_0) fullShare (inK m c) ∗ owns (c : Thread nD τ) (Memref.whole cc0_stg3_0) fullShare (inV m c)
      ∗ owns (c : Thread nD τ) (Memref.whole cc0_stg4_0) fullShare (inO m c) ∗ owns (c : Thread nD τ) (Memref.whole cc0_stg5_0) fullShare (outAt m c)))
  simp only [owns_whole]
  unfold Φin Φout Xk Yk slotsAny
  iintro ⟨⟨⟨⟨%κ, #HR, HaB, Hop, Hpay⟩, Hcr, #Hlev⟩, ⟨Hq, Ho⟩, Hreg⟩, HO, ⟨%_, H0⟩, ⟨%_, H1⟩, ⟨%_, H2⟩, ⟨%_, H3⟩, ⟨%_, H4⟩, ⟨%d, H5⟩⟩
  ihave HO := (owes_in m c) $$ HO
  icases HO with ⟨%W, HO⟩
  iapply (body_run m κ c W _)
  isplitr [Hreg]
  · unfold bodyPre
    isplitr; · iexact HR
    isplitr; · iexact Hlev
    isplitl [HaB]; · iexact HaB
    isplitl [Hop]; · iexact Hop
    isplitl [Hpay]; · iexact Hpay
    isplitl [Hcr]; · iexact Hcr
    isplitl [Hq]; · iexact Hq
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact HO
  unfold bodyPost
  iintro ⟨Hb, HS, HV, Hq, Ho, H0, H1, H2, H3, H4, H5, ⟨%W', HO⟩⟩
  isplitl [Hb HS HV Hq Ho Hreg]
  · isplitl [Hb]; · iexact Hb
    isplitl [HS HV]
    · iapply (Entails.of_eq (ownSems_eq (F := F) c).symm); isplitl [HS] <;> iassumption
    isplitl [Hq Ho]; · isplitl [Hq] <;> iassumption
    iexact Hreg
  isplitl [HO]; · iapply (owes_out m c W'); iexact HO
  isplitl [H0]; · iexact H0
  isplitl [H1]; · iexact H1
  isplitl [H2]; · iexact H2
  isplitl [H3]; · iexact H3
  isplitl [H4]; · iexact H4
  iexact H5

/-! ## The segments of `main` -/

theorem kit : Pipeline.PLaunchFacts (nD := nD) (τ := τ) (pcfgs (F := F)) 0 := launch0.toP

/-- The unscoped buffers no window stages. -/
abbrev restRefs : Finset (DevRef τ sig) := Pipeline.ucRefs τ sig \ Pipeline.arrRefs (τ := τ) spec0
theorem arr_sub : Pipeline.arrRefs (τ := τ) spec0 ⊆ Pipeline.ucRefs τ sig := by decide
theorem out_mem : (Proc.devRef .tc main_v3 : DevRef τ sig) ∈ Pipeline.arrRefs (τ := τ) spec0 := by decide

/-- All that is held of the buffers, as the staged arrays and the rest. -/
theorem held_uc (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) restRefs W) :=
  StableHlo.held_sub_split (c : Thread nD τ) arr_sub W

/-- What rides beside the buffers up to the call. -/
def R (c : Dev nD) : sProp 𝕄 := iprop(Tk m c ∗ (∃ r, prngReg c r) ∗ ∃ W, owes (c : Thread nD τ) (O₀ c) W)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The host's two transposes. -/
def seg0 : ℍ := Pipeline.HostSeg.ofOps _ _ _ _ _ (Pipeline.ucRefs τ sig) hostOps0
  (fun op h => Pipeline.sub_ucRefs op ((List.forall_iff_forall_mem.mp hostOps0_sub) op h))
  (List.forall_iff_forall_mem.mp hostOps0_fresh) (V₀ m) (R m)

theorem out_array (c : Dev nD) : (dat0 m c).arrAt 5 cfg0.N = outAt m c := by
  have h : 0 < cfg0.N := by rw [show cfg0.N = 1 from N_0]; decide
  show (dat0 m c).arrAt 5 (0 + 1) = _
  unfold Dat.arrAt
  rw [dif_pos h, if_pos (flush0_5 ⟨0, h⟩)]
  exact Memref.write_access_unit_zero_univ (Elt F) main_v3 (off := fun a => 0 * main_v3.ty.shape.size a) (funext fun a => Nat.zero_mul _) _ _ (outAt m c)

theorem array_after (c : Dev nD) : ∀ w : Fin 6, (dat0 m c).arrAt w cfg0.N = V₂ m c (Proc.devRef .tc (Pipeline.arrRef spec0 w))
  | 0 => ((dat0 m c).arrAt_in 0 rfl _).trans (V₂_ne m c (Proc.devRef .tc (Pipeline.arrRef spec0 0)) (by decide)).symm
  | 1 => ((dat0 m c).arrAt_in 1 rfl _).trans (V₂_ne m c (Proc.devRef .tc (Pipeline.arrRef spec0 1)) (by decide)).symm
  | 2 => ((dat0 m c).arrAt_in 2 rfl _).trans (V₂_ne m c (Proc.devRef .tc (Pipeline.arrRef spec0 2)) (by decide)).symm
  | 3 => ((dat0 m c).arrAt_in 3 rfl _).trans (V₂_ne m c (Proc.devRef .tc (Pipeline.arrRef spec0 3)) (by decide)).symm
  | 4 => ((dat0 m c).arrAt_in 4 rfl _).trans (V₂_ne m c (Proc.devRef .tc (Pipeline.arrRef spec0 4)) (by decide)).symm
  | 5 => (out_array m c).trans (V₂_out m c).symm

theorem staging_low : ∀ (w : Fin 6) (s : Fin (spec0 w).nbuf), lvAt (.dma ((spec0 w).sem s)) ≤ 0 := by decide
theorem owed_cut (c : Dev nD) (t : Fin (cfg0.N + 1)) (g : GSem nD τ sig) (i : Unit) (h : 0 < (dat0 m c).owed t g i) :
    i ∈ L g ∧ (0 : ℕ) < lv g i := by
  have e : (dat0 m c).owed t = if t.val = 0 then O₀ c else 0 := rfl
  rw [e] at h
  split at h
  · obtain ⟨n, -, rfl⟩ := owed_pos h
    exact ⟨pay_L c n i, pay_lv c n⟩
  · exact absurd h (Nat.lt_irrefl 0)

theorem hin (c : Dev nD) : iprop(Pipeline.scopedRest spec0 c ∗ (∃ r, prngReg c r) ∗ StableHlo.held (c.tc : Thread nD τ) ∅ (V₁ m c) ∗ Xk m c)
    ⊢ (dat0 m c).Φ 0 := by
  rw [show (dat0 m c).Φ 0 = Φin m c from rfl, scopedRest_slots]
  unfold Φin
  iintro ⟨Hs, Hp, -, HX⟩
  isplitl [HX]; · iexact HX
  isplitl [Hs]; · iexact Hs
  iexact Hp

theorem hout (c : Dev nD) : (dat0 m c).Φ (Fin.last cfg0.N)
    ⊢ iprop(Pipeline.scopedRest spec0 c ∗ (∃ r, prngReg c r) ∗ StableHlo.held (c.tc : Thread nD τ) ∅ (V₂ m c) ∗ Pipeline.ownSems0 osem c ∗ Yk c) := by
  rw [Φ_last, scopedRest_slots]
  have he : (StableHlo.held (c.tc : Thread nD τ) ∅ (V₂ m c) : sProp 𝕄) = iprop(emp) := BI.bigSep_empty
  rw [he]
  unfold Φout
  iintro ⟨HY, Hos, Hs, Hp⟩
  isplitl [Hs]; · iexact Hs
  isplitl [Hp]; · iexact Hp
  isplitr; · iempintro
  isplitl [Hos] <;> iassumption

set_option backward.isDefEq.respectTransparency.types false in
/-- The call. -/
def reg0 : ℝ𝕊 0 :=
  Pipeline.RegionSeg.ofTalk (pcfgs (F := F)) adm (pdats m) () defs₀ 𝒱₀ L lv 0 osem (by decide : Pipeline.OwnSemFacts spec0 osem)
    ∅ restRefs (Finset.empty_subset _) kit rfl (fun c => (body_obligation m c).loose)
    (fun _ => 0) O₀ (fun c => (zero_add (O₀ c)).symm) (owed_last m) (fun _ => rfl) (share_full m)
    (V₁ m) (V₂ m) (fun c b hb => V₂_ne m c b fun h => (Finset.mem_sdiff.mp (Finset.mem_sdiff.mp hb).1).2 (h ▸ out_mem))
    (Tk m) Yk (Xk m) Yk (hopen m) (hin m) (hout m)
    (fun c => by iintro H; imodintro; iexact H)
    (fun _ => 0)
    ⟨fun c w s => by rw [L_tc]; exact Finset.mem_singleton_self _, fun _ => staging_low, fun c t g i h => owed_cut m c t g i h⟩
    (fun _ => iprop(emp))
    (fun _ _ => rfl) (array_after m)

theorem reg0_pre (c : Dev nD) : iprop(StableHlo.held (c : Thread nD τ) (Pipeline.ucRefs τ sig) (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) restRefs (V₁ m c) ∗ emp) ∗ Tk m c ∗ ∃ Wd, owes (c : Thread nD τ) (0 + O₀ c) Wd)
  rw [held_uc, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) (Pipeline.ucRefs τ sig) (V₂ m c) ∗ semVal (barCell c) 0)
      ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restRefs (V₂ m c) ∗ emp) ∗ Yk c ∗ ∃ Wd, owes (c : Thread nD τ) (0 : CellTallies nD τ sig Unit) Wd) ⊢ _
  rw [held_uc]
  unfold Yk
  iintro ⟨Ha, -, ⟨Hr, -⟩, Hb, HO⟩
  isplitr [HO]
  · isplitr [Hb]
    · isplitl [Ha] <;> iassumption
    · iexact Hb
  iexact HO

/-- `main`, segment by segment. -/
abbrev segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

end Cert.RingAttn

end
-- ==== Proof.Launch.lean ====
/-
# The launch and the run

Every cell's invariant is made at the launch, the copies' cells without their counters; the tokens are dealt to the
devices that pay, the credit to the devices that wait. `run_main` is the run of `main` on the four devices, over any
float values.
-/
module

public import proofs.«01_k».proof.Proof.Region

@[expose] public section

set_option maxRecDepth 16384

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- A token by its device, and by its side: a barrier's duty or a copy's cell. -/
abbrev tokAt (x : Dev nD × (Bool ⊕ Fin 16)) : GSem nD τ sig × ℕ × Bool :=
  match x.2 with
  | .inl d => (barCell x.1, 0, d)
  | .inr k => (((x.1 : Thread nD τ), osem k), 0, false)
theorem tokAt_inj : Function.Injective tokAt := by
  rintro ⟨c, d | k⟩ ⟨c', d' | k'⟩ h
  · exact Prod.ext (congrArg (fun t : GSem nD τ sig × ℕ × Bool => t.1.1.1) h) (congrArg Sum.inl (congrArg (fun t : GSem nD τ sig × ℕ × Bool => t.2.2) h))
  · exact absurd (congrArg (fun t : GSem nD τ sig × ℕ × Bool => t.1.2) h).symm (osem_ne_bar k')
  · exact absurd (congrArg (fun t : GSem nD τ sig × ℕ × Bool => t.1.2) h) (osem_ne_bar k)
  · exact Prod.ext (congrArg (fun t : GSem nD τ sig × ℕ × Bool => t.1.1.1) h) (congrArg Sum.inr (osem_inj (congrArg (fun t : GSem nD τ sig × ℕ × Bool => t.1.2) h)))
def talkToks : Finset (GSem nD τ sig × ℕ × Bool) := Finset.univ.map ⟨tokAt, tokAt_inj⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The tokens of the duties on device `c`'s cells. -/
def toks (c : Dev nD) : sProp 𝕄 :=
  iprop(dutyTok ER (barCell c) 0 true ∗ dutyTok ER (barCell c) 0 false
    ∗ (bigSep Finset.univ fun k : Fin 8 => dutyTok ER (sendCell c k) 0 false)
    ∗ bigSep Finset.univ fun k : Fin 8 => dutyTok ER (recvCell c k) 0 false)

theorem toks_eq : bigSep talkToks (fun x => (dutyTok ER x.1 x.2.1 x.2.2 : sProp 𝕄)) = bigSep Finset.univ fun c : Dev nD => toks c := by
  unfold talkToks
  rw [bigSep_map, bigSep_univ_prod]
  refine bigSep_congr fun c _ => ?_
  have h : bigSep Finset.univ (fun b : Bool ⊕ Fin 16 => (dutyTok ER (tokAt (c, b)).1 (tokAt (c, b)).2.1 (tokAt (c, b)).2.2 : sProp 𝕄))
      = iprop((dutyTok ER (barCell c) 0 true ∗ dutyTok ER (barCell c) 0 false)
        ∗ (bigSep Finset.univ fun k : Fin 8 => dutyTok ER (sendCell c k) 0 false)
        ∗ bigSep Finset.univ fun k : Fin 8 => dutyTok ER (recvCell c k) 0 false) := by
    rw [BI.bigSep_univ_sum]
    refine congrArg₂ _ ?_ (both_sides (F := F) fun s => dutyTok ER ((c : Thread nD τ), s) 0 false)
    rw [bigSep_univ_eq_bigSepL [true, false] (by decide) (by decide)]
    rfl
  refine h.trans ?_
  unfold toks
  exact equiv_iff.mp ⟨BI.sep_assoc, BI.sep_assoc'⟩

/-- A family over the copies and the devices, each copy's moved to its source. -/
theorem around (Φ : Dev nD → Fin 8 → sProp 𝕄) :
    (bigSep Finset.univ fun c : Dev nD => bigSep Finset.univ fun k : Fin 8 => Φ c k)
      = bigSep Finset.univ fun c : Dev nD => bigSep Finset.univ fun k : Fin 8 => Φ (tgt k c) k := by
  simp only [bigSep_fin8, bigSep_sep']
  have h (k : Fin 8) : (bigSep Finset.univ fun c : Dev nD => Φ c k) = bigSep Finset.univ fun c : Dev nD => Φ (tgt k c) k :=
    bigSep_univ_equiv ⟨tgt k, org k, org_tgt k, tgt_org k⟩ fun c => Φ c k
  rw [h 0, h 1, h 2, h 3, h 4, h 5, h 6, h 7]

/-- Every token handed to the device that pays with it. -/
theorem toks_around : (bigSep Finset.univ fun c : Dev nD => (toks c : sProp 𝕄)) = bigSep Finset.univ fun c : Dev nD => payToks c := by
  unfold toks payToks
  simp only [bigSep_sep']
  rw [around fun c k => (dutyTok ER (recvCell c k) 0 false : sProp 𝕄),
    bigSep_univ_equiv ring (fun c : Dev nD => (dutyTok ER (barCell c) 0 false : sProp 𝕄)),
    bigSep_univ_equiv ring.symm (fun c : Dev nD => (dutyTok ER (barCell c) 0 true : sProp 𝕄))]
  rfl

/-! ## The launch credit -/

/-- The last payment's credit apart from the others'. -/
theorem credit_split (n : ℕ) (c : Dev nD) : (Pipeline.launchCred (fun d => owed d (n + 1)) c : sProp 𝕄)
    = iprop(Pipeline.launchCred (fun d => owed d n) c ∗ Pipeline.launchCred (fun d => tallyAt (payCell d n) () (payAmt n)) c) :=
  Pipeline.launchCred_add (fun d => owed d n) (fun d => tallyAt (payCell d n) () (payAmt n)) c

/-- The credit of the payment that is copy `k`'s. -/
theorem credit_recv (n : ℕ) (k : Fin 8) (h : ∀ d, payCell d n = recvCell (tgt k d) k) (h' : payAmt n = amt k) (c : Dev nD) :
    (Pipeline.launchCred (fun d => tallyAt (payCell d n) () (payAmt n)) c : sProp 𝕄) ⊢ cred (tallyAt (recvCell c k) () (amt k)) := by
  simp only [h, h']
  exact Pipeline.launchCred_tallyAt (.dma (recvS k)) (tgt k) (org k) (tgt_org k) (org_tgt k) () (amt k) c
theorem credit_nxt (c : Dev nD) :
    (Pipeline.launchCred (fun d => tallyAt (payCell d 8) () (payAmt 8)) c : sProp 𝕄) ⊢ cred (tallyAt (barCell c) () 1) :=
  Pipeline.launchCred_tallyAt (.reg barS) nxt prv nxt_prv prv_nxt () 1 c
theorem credit_prv (c : Dev nD) :
    (Pipeline.launchCred (fun d => tallyAt (payCell d 9) () (payAmt 9)) c : sProp 𝕄) ⊢ cred (tallyAt (barCell c) () 1) :=
  Pipeline.launchCred_tallyAt (.reg barS) prv nxt prv_nxt nxt_prv () 1 c

theorem two_bar (c : Dev nD) : iprop(cred (tallyAt (barCell c) () 1) ∗ cred (tallyAt (barCell c) () 1)) ⊢ (cred (tallyAt (barCell c) () 2) : sProp 𝕄) := by
  have h : (tallyAt (barCell c) () 1 + tallyAt (barCell c) () 1 : CellTallies nD τ sig Unit) = tallyAt (barCell c) () 2 := tallyAt_add _ _ 1 1
  rw [← h]
  exact (cred_add _ _).2

theorem credit (c : Dev nD) : (Pipeline.launchCred O₀ c : sProp 𝕄) ⊢ creds c := by
  have e : (Pipeline.launchCred O₀ c : sProp 𝕄) = Pipeline.launchCred (fun d => owed d 10) c := rfl
  rw [e]
  simp only [credit_split]
  unfold creds
  rw [bigSep_fin8]
  iintro ⟨⟨⟨⟨⟨⟨⟨⟨⟨⟨-, H7⟩, H6⟩, H5⟩, H4⟩, H3⟩, H2⟩, H1⟩, H0⟩, HN⟩, HP⟩
  isplitl [HN HP]
  · iapply (two_bar (F := F) c)
    isplitl [HN]
    · iapply (credit_nxt (F := F) c) $$ HN
    · iapply (credit_prv (F := F) c) $$ HP
  isplitl [H0]; · iapply (credit_recv (F := F) 7 0 (fun _ => rfl) rfl c) $$ H0
  isplitl [H1]; · iapply (credit_recv (F := F) 6 1 (fun _ => rfl) rfl c) $$ H1
  isplitl [H2]; · iapply (credit_recv (F := F) 5 2 (fun _ => rfl) rfl c) $$ H2
  isplitl [H3]; · iapply (credit_recv (F := F) 4 3 (fun _ => rfl) rfl c) $$ H3
  isplitl [H4]; · iapply (credit_recv (F := F) 3 4 (fun _ => rfl) rfl c) $$ H4
  isplitl [H5]; · iapply (credit_recv (F := F) 2 5 (fun _ => rfl) rfl c) $$ H5
  isplitl [H6]; · iapply (credit_recv (F := F) 1 6 (fun _ => rfl) rfl c) $$ H6
  iapply (credit_recv (F := F) 0 7 (fun _ => rfl) rfl c) $$ H7

/-! ## What each device starts from -/

/-- The launch's element: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's element, kept whole on device 0 until it is dealt. -/
def G (c : Dev nD) : sProp 𝕄 := if c = 0 then BI.own (ER (launchOf barCells scCells talkToks)) else iprop(emp)
theorem G_all : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ semVal (barCell c) 0)

/-- What of a device's holdings at the start is not the protocol's ghost state. -/
def rest (c : Dev nD) : sProp 𝕄 :=
  iprop(StableHlo.held (c : Thread nD τ) (Pipeline.ucRefs τ sig) (V₀ m c) ∗ creds c ∗ owes (c : Thread nD τ) (O₀ c) ∅ ∗ ∃ r, prngReg c r)

theorem T₀_intro (κ : GSem nD τ sig → ℕ) (c : Dev nD) : iprop(records m κ ∗ (linear c ∗ rest m c)) ⊢ T₀ m c := by
  unfold rest T₀ R Tk
  iintro ⟨#HR, Hl, Hh, Hc, HO, Hp⟩
  isplitl [Hh]; · iexact Hh
  isplitl [Hl Hc]
  · isplitl [Hl]
    · iexists κ; isplitr; · iexact HR
      iexact Hl
    · iexact Hc
  isplitl [Hp]; · iexact Hp
  iexists ∅; iexact HO

theorem barrier_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- One device's holdings at the start, sorted. -/
theorem start_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest m c ∗ (semVal (barCell c) 0 ∗ G c)) : sProp 𝕄) := by
  rw [show unscopedBufs c (fun b => m ((c : Thread nD τ).loc b)) = StableHlo.held (c : Thread nD τ) (Pipeline.ucRefs τ sig) (V₀ m c) from
      Pipeline.unscopedBufs_held c (V₀ m c), barrier_only]
  unfold rest
  iintro ⟨Hh, Hus, HO, Hcr, Hp, HG⟩
  isplitl [Hh HO Hcr Hp]
  · isplitl [Hh]; · iexact Hh
    isplitl [Hcr]; · iapply (credit (F := F) c) $$ Hcr
    isplitl [HO]; · iexact HO
    iexists (ρ c); iexact Hp
  isplitl [Hus] <;> iassumption

theorem linear_all : iprop((bigSep barCells fun g => (atPos ER g 0 ∅ 0 : sProp 𝕄)) ∗ (bigSep scCells fun g => openTok ER g)
      ∗ bigSep talkToks fun x => dutyTok ER x.1 x.2.1 x.2.2)
    = bigSep Finset.univ fun c : Dev nD => (linear c : sProp 𝕄) := by
  unfold linear
  rw [bigSep_sep', bigSep_sep', toks_eq, toks_around]
  refine congrArg₂ _ (bigSep_map (s := Finset.univ) barEmb (Φ := fun g : GSem nD τ sig => (atPos ER g 0 ∅ 0 : sProp 𝕄))) (congrArg₂ _ ?_ rfl)
  rw [bigSep_map, bigSep_univ_prod]
  exact bigSep_congr fun c _ => both_sides (F := F) fun s => openTok ER ((c : Thread nD τ), s)

theorem start_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcores : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c => rest m c) ∗ (bigSep barCells fun g => semVal g 0) ∗ BI.own (ER (launchOf barCells scCells talkToks))) : sProp 𝕄) := by
    have h₁ : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
        ⊢ (bigSep Finset.univ fun c : Dev nD => iprop(rest m c ∗ (semVal (barCell c) 0 ∗ G c)) : sProp 𝕄) :=
      bigSep_mono fun c _ => start_core m ρ c
    have h₂ : (bigSep Finset.univ fun c : Dev nD => iprop(rest m c ∗ (semVal (barCell c) 0 ∗ G c)) : sProp 𝕄)
        = iprop((bigSep Finset.univ fun c => rest m c) ∗ (bigSep barCells fun g => semVal g 0) ∗ BI.own (ER (launchOf barCells scCells talkToks))) := by
      rw [bigSep_sep', bigSep_sep', G_all]
      refine congrArg₂ _ rfl (congrArg₂ _ ?_ rfl)
      exact (bigSep_map (s := Finset.univ) barEmb (Φ := fun g : GSem nD τ sig => (semVal g 0 : sProp 𝕄))).symm
    exact h₁.trans (Entails.of_eq h₂)
  iintro ⟨H, -⟩
  ihave H := hcores $$ H
  icases H with ⟨HB, Hv, Hu⟩
  imod (Rounds.fund_launch ER (talkRd m) disjoint_cells (fun g _ h => h) talkToks) $$ [Hv Hu] with ⟨%κ, -, #Hinv, #Hr, Hat, Hopen, Htok⟩
  · isplitl [Hv] <;> iassumption
  imodintro
  iapply (bigSep_with_persistent (R := records m κ) (Φ := fun c => iprop(linear c ∗ rest m c)) fun c _ => T₀_intro m κ c)
  isplitr
  · unfold records
    isplitr; · iexact Hinv
    iexact Hr
  iapply (Entails.of_eq (bigSep_sep' Finset.univ (fun c : Dev nD => (linear c : sProp 𝕄)) fun c => rest m c).symm)
  isplitr [HB]
  · iapply (Entails.of_eq (linear_all (F := F)))
    isplitl [Hat]; · iexact Hat
    isplitl [Hopen] <;> iassumption
  · iexact HB

/-! ## The run -/

theorem unscoped_eq : ∀ sm : SemLoc sig, sm.isScoped .tc = false → sm = .reg barS := by decide

/-- The result and the arguments, out of all that is held at the end. -/
theorem held_end (c : Dev nD) (b : Ref sig .tc) (h : (Proc.devRef .tc b : DevRef τ sig) ∈ Pipeline.ucRefs τ sig) (W : Valuation τ sig (Elt F)) :
    (StableHlo.held (c : Thread nD τ) (Pipeline.ucRefs τ sig) W : sProp 𝕄) ⊢ stgPts c b (W b) := by
  unfold StableHlo.held
  exact bigSep_elim h

theorem V₂_arg (c : Dev nD) (b : Ref sig .tc) (hb : (Proc.devRef .tc b : DevRef τ sig) ≠ Proc.devRef .tc main_v3) (h : V m c b = m ((c : Thread nD τ).loc b)) :
    V₂ m c b = m ((c : Thread nD τ).loc b) := (V₂_ne m c _ hb).trans h

/-- What the final memory holds on device `c`. -/
def Ends (c : Dev nD) (s : MemSt nD τ sig (Elt F)) : Prop :=
  s.mem ((c : Thread nD τ).loc main_v3) = outAt m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

set_option backward.isDefEq.respectTransparency.types false in
/-- Every weakly fair execution of `main` on the four devices, from any memory with zero counters, terminates; at the end
    each device's result is `outAt`, its arguments are as they were, and every counter is at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := T₀ m) (Tₙ := Tₙ m)
    (hch := ⟨fun c => .rfl, fun c => reg0_pre m c, fun c => reg0_post m c⟩)
    (hinit := start_all m ρ)
    (QY := fun c s => Ends m c s ∧ s.sem (barCell c) = 0)
    (hfin := fun c s' => by
      have hsplit : (StableHlo.held (c : Thread nD τ) (Pipeline.ucRefs τ sig) (V₂ m c) : sProp 𝕄)
          = iprop(stgPts c main_arg0 (V₂ m c main_arg0) ∗ stgPts c main_arg1 (V₂ m c main_arg1) ∗ stgPts c main_arg2 (V₂ m c main_arg2)
            ∗ stgPts c main_arg3 (V₂ m c main_arg3) ∗ stgPts c main_arg4 (V₂ m c main_arg4) ∗ stgPts c main_v1 (V₂ m c main_v1)
            ∗ stgPts c main_v2 (V₂ m c main_v2) ∗ stgPts c main_v3 (V₂ m c main_v3)) := by
        unfold StableHlo.held
        rw [bigSep_eq_bigSepL_of_eq [Proc.devRef .tc main_arg0, Proc.devRef .tc main_arg1, Proc.devRef .tc main_arg2, Proc.devRef .tc main_arg3,
          Proc.devRef .tc main_arg4, Proc.devRef .tc main_v1, Proc.devRef .tc main_v2, Proc.devRef .tc main_v3] (by decide) (by decide)]
        rfl
      dsimp only [Tₙ]
      rw [hsplit]
      iintro ⟨⟨⟨H0, H1, H2, H3, H4, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨(Buf.eq_of_forall_mem_univ h5).trans (V₂_out m c),
          (Buf.eq_of_forall_mem_univ h0).trans (V₂_arg m c main_arg0 (by decide) (V_main_arg0 m c)),
          (Buf.eq_of_forall_mem_univ h1).trans (V₂_arg m c main_arg1 (by decide) (V_main_arg1 m c)),
          (Buf.eq_of_forall_mem_univ h2).trans (V₂_arg m c main_arg2 (by decide) (V_main_arg2 m c)),
          (Buf.eq_of_forall_mem_univ h3).trans (V₂_arg m c main_arg3 (by decide) (V_main_arg3 m c)),
          (Buf.eq_of_forall_mem_univ h4).trans (V₂_arg m c main_arg4 (by decide) (V_main_arg4 m c))⟩, by simpa using hb⟩
      iexact HSI)
    (hQ := fun s h hs => ⟨fun c => (h c).1,
      sem_eq_zero hs fun c sm hsm => by
        obtain rfl := unscoped_eq sm hsm
        exact (h c).2⟩)

end Cert.RingAttn

end
-- ==== Proof.Frames.lean ====
/-
# The frames

The kernel's two frames are its run with the result dropped: the kernel as printed and the kernel over the extended
reals have one text, so the run of the second, over any float values, is the run of the first too. The reference has no
semaphore, and its run leaves its arguments as they were.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

set_option maxRecDepth 16384

noncomputable section

namespace Cert.RingAttn

open Idealize.ShloMosaic Idealize.SL.Sem

/-- The two kernels' body tables have one entry, and it is one text. -/
theorem bodies_eq : Cert.Kernel.defs₀ (F := Bits) = Cert.KernelIdeal.defs₀ (F := Bits) := by
  unfold Cert.Kernel.defs₀ Cert.KernelIdeal.defs₀
  refine congrArg Defs.onTc (funext fun ℓ => ?_)
  obtain rfl : ℓ = 0 := Subsingleton.elim _ _
  funext a
  rfl

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

theorem frame_kernel : Cert.quiescent_Kernel := fun m ρ _ => by
  rw [defs_eq]
  exact (θ_run Cert.KernelIdeal.defs _ _).mono (fun _ h => ⟨fun c => (h.1 c).2, h.2⟩) (run_main (F := Bits) m ρ)

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingAttn

end
-- ==== Proof.Chunk.lean ====
/-
  One chunk of the result, written once. The kernel spells the attention of eight heads four times over, each time cut in
  other pieces; `chunk` is that computation in one form: project the rows to queries, split rows and keys in four groups,
  attend inside each group, put the groups together again and multiply by the output block.
-/
module

public import proofs.«01_k».proof.Proof.Body

@[expose] public section

set_option maxRecDepth 16384

noncomputable section

namespace Cert.RingAttn

open Idealize.ShloMosaic Idealize.SL.Sem
open Cert.KernelIdeal Cert.KernelIdeal.Gen

variable {F : FTy → Type} [FloatOps F]

/-- The rows of one group, of an array that is already cut in groups. -/
def pick (off : Fin 5 → Nat) (h : S16x2x4x64x64.Slices off S16x2x1x64x64) (y : FVec F S16x2x4x64x64 .bf16) : FVec F S16x128x64 .bf16 :=
  shapeCast S16x128x64 (shapeCast S16x2x64x64 (extractStridedSlice S16x2x1x64x64 off y h) shapeCasts_S16x2x1x64x64_S16x2x64x64)
    shapeCasts_S16x2x64x64_S16x128x64

/-- The exponentials of the scores of one group. -/
def weights (q k : FVec F S16x128x64 .bf16) : FVec F S16x128x128 .f32 :=
  exp (matmul dot_S16x128x64_S16x128x64_S16x128x128_2_2_1_1_0_0 none q k (constant S16x128x128 .f32 0x00000000#32))

/-- One over the sum of each row's exponentials. -/
def inverse (w : FVec F S16x128x128 .f32) : FVec F S16x128x1 .f32 :=
  divf (broadcast S16x128x1 (Scalar.ofBits .f32 0x3F800000#32))
    (shapeCast S16x128x1 (multiReduction .add [2] S16x128 w 0x00000000#32 reduces_S16x128x128_S16x128 (.inl rfl) rfl) shapeCasts_S16x128_S16x128x1)

/-- The context of one group: the weighted values over the sum of the weights. -/
def context (q k v : FVec F S16x128x64 .bf16) : FVec F S16x128x64 .f32 :=
  mulf (matmul dot_S16x128x128_S16x128x64_S16x128x64_2_1_1_2_0_0 none (truncf .bf16 (weights q k) bitsLt_bf16_f32) v
      (constant S16x128x64 .f32 0x00000000#32))
    (broadcastTo S16x128x64 (inverse (weights q k)) broadcasts_S16x128x1_S16x128x64)

/-- The context of one group, its rows cut in blocks of 64 under a unit dimension for the group. -/
def context5 (q k v : FVec F S16x128x64 .bf16) : FVec F S16x2x1x64x64 .bf16 :=
  shapeCast S16x2x1x64x64 (shapeCast S16x2x64x64 (truncf .bf16 (context q k v) bitsLt_bf16_f32) shapeCasts_S16x128x64_S16x2x64x64)
    shapeCasts_S16x2x64x64_S16x2x1x64x64

/-- The four groups' contexts as one matrix: a row per token, a column per head and head entry. -/
def gather (a b c d : FVec F S16x2x1x64x64 .bf16) : FVec F S1024x512 .bf16 :=
  shapeCast S1024x512
    (transpose S2x512x8x64 [1, 2, 0, 3]
      (shapeCast S8x2x512x64
        (concatenate S16x2x4x64x64 2 [⟨S16x2x1x64x64, a⟩, ⟨S16x2x1x64x64, b⟩, ⟨S16x2x1x64x64, c⟩, ⟨S16x2x1x64x64, d⟩]
          concatenates_S16x2x1x64x64_S16x2x1x64x64_S16x2x1x64x64_S16x2x1x64x64_S16x2x4x64x64_d2)
        shapeCasts_S16x2x4x64x64_S8x2x512x64)
      transposes_S8x2x512x64_p1_2_0_3_S2x512x8x64)
    shapeCasts_S2x512x8x64_S1024x512

/-- The context matrix of eight heads, from the queries, keys and values cut in groups. -/
def contexts (q k v : FVec F S16x2x4x64x64 .bf16) : FVec F S1024x512 .bf16 :=
  gather
    (context5 (pick ![0, 0, 0, 0, 0] slices_S16x2x4x64x64_o0_0_0_0_0_S16x2x1x64x64 q)
      (pick ![0, 0, 0, 0, 0] slices_S16x2x4x64x64_o0_0_0_0_0_S16x2x1x64x64 k) (pick ![0, 0, 0, 0, 0] slices_S16x2x4x64x64_o0_0_0_0_0_S16x2x1x64x64 v))
    (context5 (pick ![0, 0, 1, 0, 0] slices_S16x2x4x64x64_o0_0_1_0_0_S16x2x1x64x64 q)
      (pick ![0, 0, 1, 0, 0] slices_S16x2x4x64x64_o0_0_1_0_0_S16x2x1x64x64 k) (pick ![0, 0, 1, 0, 0] slices_S16x2x4x64x64_o0_0_1_0_0_S16x2x1x64x64 v))
    (context5 (pick ![0, 0, 2, 0, 0] slices_S16x2x4x64x64_o0_0_2_0_0_S16x2x1x64x64 q)
      (pick ![0, 0, 2, 0, 0] slices_S16x2x4x64x64_o0_0_2_0_0_S16x2x1x64x64 k) (pick ![0, 0, 2, 0, 0] slices_S16x2x4x64x64_o0_0_2_0_0_S16x2x1x64x64 v))
    (context5 (pick ![0, 0, 3, 0, 0] slices_S16x2x4x64x64_o0_0_3_0_0_S16x2x1x64x64 q)
      (pick ![0, 0, 3, 0, 0] slices_S16x2x4x64x64_o0_0_3_0_0_S16x2x1x64x64 k) (pick ![0, 0, 3, 0, 0] slices_S16x2x4x64x64_o0_0_3_0_0_S16x2x1x64x64 v))

variable (acc : FVec F S1024x768 .f32) (x : FVec F S1024x768 .bf16) (q : FVec F S1x768x512 .bf16) (o : FVec F S1x512x768 .bf16)
  (k v : FVec F S8x2x512x64 .bf16)

/-- The chunk of eight heads. -/
def chunk : FVec F S1024x768 .f32 :=
  matmul dot_S1024x512_S512x768_S1024x768_1_0_0_1_n_n none (contexts (k0_pay5 x q) (k0_pay6 k) (k0_pay7 v)) (k0_pay4 o)
    (constant S1024x768 .f32 0x00000000#32)

theorem chunkOwn_eq : chunkOwn x q o k v = chunk x q o k v := rfl
theorem addLeft_eq : addLeft acc x q o k v = addf acc (chunk x q o k v) := rfl
theorem addRight_eq : addRight acc x q o k v = addf acc (chunk x q o k v) := rfl
theorem addDia_eq : addDia acc x q o k v = shapeCast S2x512x768 (addf acc (chunk x q o k v)) shapeCasts_S1024x768_S2x512x768 := rfl

end Cert.RingAttn

end
-- ==== Proof.SoftRow.lean ====
/-
  One row of attention over the extended reals. The reference subtracts the row's greatest score, takes exponentials,
  divides each by their sum and weighs the values; the kernel weighs the values by the plain exponentials and multiplies
  once by one over their sum. The two agree where the scores of the kept keys are real numbers; the values may be any.
-/
module

public import Idealize.ShloMosaic.PureOps.Ideal
public import Mathlib.Data.EReal.Inv

@[expose] public section

noncomputable section

namespace Cert.RingAttn

open Idealize.ShloMosaic

/-- The weighted values over the sum of the weights, as the kernel computes it. -/
def softRow {n : ℕ} (s v : Fin n → EReal) : EReal :=
  (∑ j, Ideal.exp (s j) * v j) * Ideal.div 1 (∑ j, Ideal.exp (s j))

/-- A finite sum of real numbers, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a real number and not negative moves into a sum of extended reals. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The greatest of finitely many numbers, each less than plus infinity and one of them greater than minus infinity, is
    a real number. -/
theorem fold_max_real {n : ℕ} (f : Fin n → EReal) (hf : ∀ j, f j ≠ ⊤) (j₀ : Fin n) (h₀ : f j₀ ≠ ⊥) :
    ∃ r : ℝ, Finset.univ.fold max ⊥ f = (r : EReal) := by
  have lt : Finset.univ.fold max ⊥ f < ⊤ := by
    rw [Finset.fold_max_lt]
    exact ⟨bot_lt_top, fun j _ => lt_top_iff_ne_top.mpr (hf j)⟩
  have gt : ⊥ < Finset.univ.fold max ⊥ f := by
    rw [Finset.lt_fold_max]
    exact .inr ⟨j₀, Finset.mem_univ _, bot_lt_iff_ne_bot.mpr h₀⟩
  exact ⟨_, (EReal.coe_toReal lt.ne gt.ne').symm⟩

/-- The row the reference computes is the row the kernel computes: `e` lists the keys that the mask keeps, whose scores
    are real numbers. -/
theorem masked_row {n N : ℕ} (e : Fin n → Fin N) (he : Function.Injective e) (i₀ : Fin n) (s v : Fin N → EReal)
    (keep : Fin N → Prop) [DecidablePred keep] (hkeep : ∀ j, keep j ↔ j ∈ Set.range e) (hs : ∀ i, ∃ r : ℝ, s (e i) = (r : EReal)) :
    (∑ j, v j * Ideal.div (Ideal.exp ((if keep j then s j else ⊥) - Finset.univ.fold max ⊥ fun j => if keep j then s j else ⊥))
      (∑ j, Ideal.exp ((if keep j then s j else ⊥) - Finset.univ.fold max ⊥ fun j => if keep j then s j else ⊥)))
      = softRow (fun i => s (e i)) (fun i => v (e i)) := by
  choose t ht using hs
  have kept : ∀ i, keep (e i) := fun i => (hkeep _).mpr ⟨i, rfl⟩
  obtain ⟨M, hM⟩ : ∃ r : ℝ, (Finset.univ.fold max ⊥ fun j => if keep j then s j else ⊥) = (r : EReal) := by
    refine fold_max_real _ (fun j => ?_) (e i₀) ?_
    · by_cases h : keep j
      · obtain ⟨i, rfl⟩ := (hkeep j).mp h
        rw [if_pos h, ht]; exact EReal.coe_ne_top _
      · rw [if_neg h]; exact bot_ne_top
    · rw [if_pos (kept _), ht]; exact EReal.coe_ne_bot _
  rw [hM]
  have wk : ∀ i, Ideal.exp ((if keep (e i) then s (e i) else ⊥) - (M : EReal)) = ((Real.exp (t i - M) : ℝ) : EReal) := fun i => by
    rw [if_pos (kept i), ht, ← EReal.coe_sub]; rfl
  have w0 : ∀ j, j ∉ Set.range e → Ideal.exp ((if keep j then s j else ⊥) - (M : EReal)) = 0 := fun j h => by
    rw [if_neg (fun hk => h ((hkeep j).mp hk)), EReal.bot_sub]; rfl
  have hW : (∑ j, Ideal.exp ((if keep j then s j else ⊥) - (M : EReal))) = ((∑ i, Real.exp (t i - M) : ℝ) : EReal) := by
    rw [coe_sum]
    exact (Fintype.sum_of_injective e he _ _ w0 fun i => (wk i).symm).symm
  rw [hW]
  have pos : 0 < ∑ i, Real.exp (t i - M) := Finset.sum_pos (fun i _ => Real.exp_pos _) ⟨i₀, Finset.mem_univ _⟩
  have pos' : 0 < ∑ i, Real.exp (t i) := Finset.sum_pos (fun i _ => Real.exp_pos _) ⟨i₀, Finset.mem_univ _⟩
  have shift : ∑ i, Real.exp (t i - M) = (∑ i, Real.exp (t i)) / Real.exp M := by
    rw [Finset.sum_div]; exact Finset.sum_congr rfl fun i _ => Real.exp_sub _ _
  have lhs : (∑ j, v j * Ideal.div (Ideal.exp ((if keep j then s j else ⊥) - (M : EReal))) ((∑ i, Real.exp (t i - M) : ℝ) : EReal))
      = ∑ i, v (e i) * ((Real.exp (t i) * (1 / ∑ i, Real.exp (t i)) : ℝ) : EReal) := by
    refine (Fintype.sum_of_injective e he _ _ (fun j h => ?_) fun i => ?_).symm
    · rw [w0 j h, Ideal.div_coe pos.ne', zero_mul, mul_zero]
    · rw [wk, Ideal.div_coe pos.ne', ← EReal.coe_mul, shift, Real.exp_sub]
      congr 2
      have := Real.exp_pos M
      field_simp
  have hE : (∑ i, Ideal.exp (s (e i))) = ((∑ i, Real.exp (t i) : ℝ) : EReal) := by
    rw [coe_sum]; exact Finset.sum_congr rfl fun i _ => by rw [ht]; rfl
  rw [lhs, softRow, hE, Ideal.div_coe pos'.ne', one_mul, sum_mul_coe _ _ (by positivity)]
  refine Finset.sum_congr rfl fun i _ => ?_
  rw [ht, show Ideal.exp ((t i : ℝ) : EReal) = ((Real.exp (t i) : ℝ) : EReal) from rfl, EReal.coe_mul, mul_comm _ (v (e i)), mul_assoc]

end Cert.RingAttn

end
-- ==== Proof.ChunkValue.lean ====
/-
  The chunk of eight heads at an index, over the extended reals: which entries of the rows, weights, keys and values the
  context of one token and one head entry is made of.
-/
module

public import proofs.«01_k».proof.Proof.Chunk
public import proofs.«01_k».proof.Proof.SoftRow
public import Idealize.ShloMosaic.Lib.Pointwise

@[expose] public section

set_option maxRecDepth 16384

noncomputable section

namespace Cert.RingAttn

open Idealize.ShloMosaic Idealize.SL.Sem
open Cert.KernelIdeal Cert.KernelIdeal.Gen

/-! ## The stages -/

/-- The scale of the scores. -/
abbrev scale : EReal := Ideal.ofBits .f32 0x3E000000#32

theorem pay1_apply (w : FVec Ideal S768x512 .bf16) (a : Fin 1) (e : Fin 768) (n : Fin 512) : k0_pay1 w (ix3 a e n) = w (ix2 e n) := by
  pointwise [k0_pay1]

theorem pay2_apply (w : FVec Ideal S512x768 .bf16) (a : Fin 1) (n : Fin 512) (e : Fin 768) : k0_pay2 w (ix3 a n e) = w (ix2 n e) := by
  pointwise [k0_pay2]

theorem pay3_apply (x : FVec Ideal S2x512x768 .bf16) (r : Fin 1024) (e : Fin 768) :
    k0_pay3 x (ix2 r e) = x (ix3 ⟨r.val / 512, by omega⟩ ⟨r.val % 512, by omega⟩ e) := by
  pointwise [k0_pay3]

theorem pay4_apply (o : FVec Ideal S1x512x768 .bf16) (n : Fin 512) (e : Fin 768) : k0_pay4 o (ix2 n e) = o (ix3 0 n e) := by
  pointwise [k0_pay4]

theorem pay5_apply (x : FVec Ideal S1024x768 .bf16) (q : FVec Ideal S1x768x512 .bf16) (a : Fin 16) (b : Fin 2) (g : Fin 4)
    (r d : Fin 64) :
    k0_pay5 x q (ix5 a b g r d)
      = (∑ e : Fin 768, x (ix2 ⟨a.val % 2 * 512 + (b.val * 256 + g.val * 64 + r.val), by omega⟩ e)
          * q (ix3 0 e ⟨a.val / 2 * 64 + d.val, by omega⟩)) * scale := by
  pointwise [k0_pay5]

theorem pay6_apply (k : Vec Ideal S8x2x512x64 .bf16) (a : Fin 16) (b : Fin 2) (g : Fin 4) (r d : Fin 64) :
    k0_pay6 k (ix5 a b g r d)
      = k (ix4 ⟨a.val / 2, by omega⟩ ⟨a.val % 2, by omega⟩ ⟨b.val * 256 + g.val * 64 + r.val, by omega⟩ d) := by
  pointwise [k0_pay6]

theorem pay7_apply (k : Vec Ideal S8x2x512x64 .bf16) (a : Fin 16) (b : Fin 2) (g : Fin 4) (r d : Fin 64) :
    k0_pay7 k (ix5 a b g r d)
      = k (ix4 ⟨a.val / 2, by omega⟩ ⟨a.val % 2, by omega⟩ ⟨b.val * 256 + g.val * 64 + r.val, by omega⟩ d) := by
  pointwise [k0_pay7]

theorem pick_apply (g : Fin 4) (h : S16x2x4x64x64.Slices ![0, 0, g.val, 0, 0] S16x2x1x64x64) (y : FVec Ideal S16x2x4x64x64 .bf16)
    (a : Fin 16) (p : Fin 128) (d : Fin 64) :
    pick ![0, 0, g.val, 0, 0] h y (ix3 a p d) = y (ix5 a ⟨p.val / 64, by omega⟩ g ⟨p.val % 64, by omega⟩ d) := by
  pointwise [pick]

/-- The context of a row of one group. -/
theorem context_apply (q k v : FVec Ideal S16x128x64 .bf16) (a : Fin 16) (p : Fin 128) (d : Fin 64) :
    context q k v (ix3 a p d)
      = softRow (fun j => ∑ d' : Fin 64, q (ix3 a p d') * k (ix3 a j d')) (fun j => v (ix3 a j d)) := by
  pointwise [context, weights, inverse, softRow]

theorem context5_apply (q k v : FVec Ideal S16x128x64 .bf16) (a : Fin 16) (b : Fin 2) (g : Fin 1) (r d : Fin 64) :
    context5 q k v (ix5 a b g r d) = context q k v (ix3 a ⟨b.val * 64 + r.val, by omega⟩ d) := by
  pointwise [context5]

/-! ## The context matrix -/

theorem slices_group (g : Fin 4) : S16x2x4x64x64.Slices ![0, 0, g.val, 0, 0] S16x2x1x64x64 := by
  fin_cases g
  · exact slices_S16x2x4x64x64_o0_0_0_0_0_S16x2x1x64x64
  · exact slices_S16x2x4x64x64_o0_0_1_0_0_S16x2x1x64x64
  · exact slices_S16x2x4x64x64_o0_0_2_0_0_S16x2x1x64x64
  · exact slices_S16x2x4x64x64_o0_0_3_0_0_S16x2x1x64x64

/-- The context of group `g`. -/
def groupContext (q k v : FVec Ideal S16x2x4x64x64 .bf16) (g : Fin 4) : FVec Ideal S16x2x1x64x64 .bf16 :=
  context5 (pick ![0, 0, g.val, 0, 0] (slices_group g) q) (pick ![0, 0, g.val, 0, 0] (slices_group g) k)
    (pick ![0, 0, g.val, 0, 0] (slices_group g) v)

theorem groupContext_apply (q k v : FVec Ideal S16x2x4x64x64 .bf16) (g : Fin 4) (a : Fin 16) (b : Fin 2) (r d : Fin 64) :
    groupContext q k v g (ix5 a b 0 r d)
      = softRow (fun j : Fin 128 => ∑ d' : Fin 64, q (ix5 a b g r d')
            * k (ix5 a ⟨j.val / 64, by omega⟩ g ⟨j.val % 64, by omega⟩ d'))
          (fun j : Fin 128 => v (ix5 a ⟨j.val / 64, by omega⟩ g ⟨j.val % 64, by omega⟩ d)) := by
  rw [groupContext, context5_apply, context_apply]
  simp only [pick_apply]
  have e1 : (b.val * 64 + r.val) / 64 = b.val := by omega
  have e2 : (b.val * 64 + r.val) % 64 = r.val := by omega
  simp only [e1, e2]

theorem contexts_eq (q k v : FVec Ideal S16x2x4x64x64 .bf16) :
    contexts q k v = gather (groupContext q k v 0) (groupContext q k v 1) (groupContext q k v 2) (groupContext q k v 3) := rfl

/-- Two places of an array with one unit dimension are the same where the other coordinates are. -/
theorem ix5_unit (a : Fin 16) (b : Fin 2) (g g' : Fin 1) (r r' d : Fin 64) (h : r.val = r'.val) :
    ix5 a b g r d = ix5 a b g' r' d := by
  rw [Subsingleton.elim g g', Fin.ext h]

/-- The context matrix at token `r` and column `n` is an entry of the context of the token's group. -/
theorem gather_apply (f : Fin 4 → FVec Ideal S16x2x1x64x64 .bf16) (r : Fin 1024) (n : Fin 512) (g : Fin 4) (hg : g.val = r.val / 64 % 4) :
    gather (f 0) (f 1) (f 2) (f 3) (ix2 r n)
      = f g (ix5 ⟨n.val / 64 * 2 + r.val / 512, by omega⟩ ⟨r.val % 512 / 256, by omega⟩ 0
          ⟨r.val % 64, by omega⟩ ⟨n.val % 64, by omega⟩) := by
  have e64 : r.val % 512 % 64 = r.val % 64 := by omega
  have e4 : r.val % 512 / 64 % 4 = g.val := by omega
  pointwise [gather]
  match g, e4 with
  | 0, h => rw [dif_pos (by rw [h]; decide)]; exact congrArg (f 0) (ix5_unit _ _ _ _ _ _ _ e64)
  | 1, h => rw [dif_neg (by rw [h]; decide), dif_pos (by rw [h]; decide)]; exact congrArg (f 1) (ix5_unit _ _ _ _ _ _ _ e64)
  | 2, h =>
    rw [dif_neg (by rw [h]; decide), dif_neg (by rw [h]; decide), dif_pos (by rw [h]; decide)]
    exact congrArg (f 2) (ix5_unit _ _ _ _ _ _ _ e64)
  | 3, h =>
    rw [dif_neg (by rw [h]; decide), dif_neg (by rw [h]; decide), dif_neg (by rw [h]; decide)]
    exact congrArg (f 3) (ix5_unit _ _ _ _ _ _ _ e64)

/-- The key that stands at place `i` of the keys that the token `r` attends to. -/
def key (r : ℕ) (i : Fin 128) : Fin 512 := ⟨i.val / 64 * 256 + r / 64 % 4 * 64 + i.val % 64, by omega⟩

/-- A column of the context matrix: a row of attention among the keys of the token's group. -/
theorem contexts_apply (q k v : FVec Ideal S16x2x4x64x64 .bf16) (r : Fin 1024) (n : Fin 512) :
    contexts q k v (ix2 r n)
      = softRow (fun j : Fin 128 => ∑ d : Fin 64,
            q (ix5 ⟨n.val / 64 * 2 + r.val / 512, by omega⟩ ⟨r.val % 512 / 256, by omega⟩ ⟨r.val / 64 % 4, by omega⟩ ⟨r.val % 64, by omega⟩ d)
              * k (ix5 ⟨n.val / 64 * 2 + r.val / 512, by omega⟩ ⟨j.val / 64, by omega⟩ ⟨r.val / 64 % 4, by omega⟩ ⟨j.val % 64, by omega⟩ d))
          (fun j : Fin 128 => v (ix5 ⟨n.val / 64 * 2 + r.val / 512, by omega⟩ ⟨j.val / 64, by omega⟩ ⟨r.val / 64 % 4, by omega⟩
            ⟨j.val % 64, by omega⟩ ⟨n.val % 64, by omega⟩)) := by
  rw [contexts_eq, gather_apply (groupContext q k v) r n ⟨r.val / 64 % 4, by omega⟩ rfl, groupContext_apply]

/-! ## The chunk -/

variable (x : FVec Ideal S1024x768 .bf16) (q : FVec Ideal S1x768x512 .bf16) (o : FVec Ideal S1x512x768 .bf16)
  (k v : Vec Ideal S8x2x512x64 .bf16)

theorem chunk_apply (r : Fin 1024) (e : Fin 768) :
    chunk x q o k v (ix2 r e)
      = ∑ n : Fin 512, softRow (fun i => ∑ d : Fin 64,
            ((∑ e' : Fin 768, x (ix2 r e') * q (ix3 0 e' ⟨n.val / 64 * 64 + d.val, by omega⟩)) * scale)
              * k (ix4 ⟨n.val / 64, by omega⟩ ⟨r.val / 512, by omega⟩ (key r.val i) d))
          (fun i => v (ix4 ⟨n.val / 64, by omega⟩ ⟨r.val / 512, by omega⟩ (key r.val i) ⟨n.val % 64, by omega⟩)) * o (ix3 0 n e) := by
  have step : chunk x q o k v (ix2 r e)
      = ∑ n : Fin 512, contexts (k0_pay5 x q) (k0_pay6 k) (k0_pay7 v) (ix2 r n) * k0_pay4 o (ix2 n e) := by
    pointwise [chunk]
  rw [step]
  refine Finset.sum_congr rfl fun n _ => ?_
  rw [contexts_apply, pay4_apply]
  simp only [pay5_apply, pay6_apply, pay7_apply]
  have e1 : (n.val / 64 * 2 + r.val / 512) / 2 = n.val / 64 := by omega
  have e2 : (n.val / 64 * 2 + r.val / 512) % 2 = r.val / 512 := by omega
  have e3 : r.val / 512 * 512 + (r.val % 512 / 256 * 256 + r.val / 64 % 4 * 64 + r.val % 64) = r.val := by omega
  simp only [e1, e2, e3]
  rfl

end Cert.RingAttn

end
-- ==== Proof.KernelValue.lean ====
/-
  The result block of a device at an index, over the extended reals: a sum of four parts, one for each device's eight
  heads, in the order in which the kernel adds them.
-/
module

public import proofs.«01_k».proof.Proof.ChunkValue

@[expose] public section

set_option maxRecDepth 16384

noncomputable section

namespace Cert.RingAttn

open Idealize.ShloMosaic Idealize.SL.Sem
open Cert.KernelIdeal Cert.KernelIdeal.Gen

variable (m : (ℓ : Loc nD τ sig) → Buf (Elt Ideal) ℓ)

/-- What the eight heads of one device add to the result: `x` and the keys and values are of the device at work, `q` and
    `o` the weights of those heads, the first of which is `8 * j`. -/
def part (x : FVec Ideal S2x512x768 .bf16) (q : FVec Ideal S768x512 .bf16) (k v : FVec Ideal S32x2x512x64 .bf16)
    (o : FVec Ideal S512x768 .bf16) (j : Fin 4) (b : Fin 2) (s : Fin 512) (e : Fin 768) : EReal :=
  ∑ n : Fin 512, softRow (fun i => ∑ d : Fin 64,
        ((∑ e' : Fin 768, x (ix3 b s e') * q (ix2 e' ⟨n.val / 64 * 64 + d.val, by omega⟩)) * scale)
          * k (ix4 ⟨8 * j.val + n.val / 64, by omega⟩ b (key s.val i) d))
      (fun i => v (ix4 ⟨8 * j.val + n.val / 64, by omega⟩ b (key s.val i) ⟨n.val % 64, by omega⟩)) * o (ix2 n e)

theorem headBlk_apply (j : Dev nD) (a : Vec Ideal S32x2x512x64 .bf16) (h : Fin 8) (b : Fin 2) (t : Fin 512) (d : Fin 64) :
    headBlk j a (ix4 h b t d) = a (ix4 ⟨8 * j.val + h.val, by have h1 : j.val < 4 := j.isLt; omega⟩ b t d) := by
  refine congrArg a (funext fun i => ?_)
  match i with
  | 0 => rfl
  | 1 => rfl
  | 2 => rfl
  | 3 => rfl

theorem key_row (b s : ℕ) (i : Fin 128) : key (b * 512 + s) i = key s i :=
  Fin.ext (by show i.val / 64 * 256 + (b * 512 + s) / 64 % 4 * 64 + i.val % 64 = i.val / 64 * 256 + s / 64 % 4 * 64 + i.val % 64; omega)

/-- The chunk as the kernel calls it is the part of the heads of device `j`. -/
theorem chunk_part (x : FVec Ideal S2x512x768 .bf16) (q : FVec Ideal S768x512 .bf16) (k v : Vec Ideal S32x2x512x64 .bf16)
    (o : FVec Ideal S512x768 .bf16) (j : Dev nD) (b : Fin 2) (s : Fin 512) (e : Fin 768) :
    chunk (k0_pay3 x) (k0_pay1 q) (k0_pay2 o) (headBlk j k) (headBlk j v) (ix2 ⟨b.val * 512 + s.val, by omega⟩ e)
      = part x q k v o j b s e := by
  rw [chunk_apply]
  refine Finset.sum_congr rfl fun n _ => ?_
  have e1 : (b.val * 512 + s.val) / 512 = b.val := by omega
  have e2 : (b.val * 512 + s.val) % 512 = s.val := by omega
  simp only [pay1_apply, pay2_apply, pay3_apply, headBlk_apply, key_row, e1, e2]

theorem outAt_apply (c : Dev nD) (b : Fin 2) (s : Fin 512) (e : Fin 768) :
    outAt m c (ix3 b s e)
      = part (inX m c) (inQ m c) (inK m c) (inV m c) (inO m c) c b s e
        + part (inX m c) (inQ m (prv c)) (inK m c) (inV m c) (inO m (prv c)) (prv c) b s e
        + part (inX m c) (inQ m (nxt c)) (inK m c) (inV m c) (inO m (nxt c)) (nxt c) b s e
        + part (inX m c) (inQ m (dia c)) (inK m c) (inV m c) (inO m (dia c)) (dia c) b s e := by
  rw [outAt, addDia_eq, addRight_eq, addLeft_eq, chunkOwn_eq]
  simp only [← chunk_part]
  pointwise

end Cert.RingAttn

end
-- ==== Proof.Inputs.lean ====
/-
  What the kernel's staged inputs hold: the device's arguments, the keys and values with the heads in front.
-/
module

public import proofs.«01_k».proof.Proof.KernelValue
import Idealize.ShloMosaic.Lib.Pointwise

@[expose] public section

set_option maxRecDepth 16384

noncomputable section

namespace Cert.RingAttn

open Idealize.ShloMosaic Idealize.SL.Sem
open Cert.KernelIdeal Cert.KernelIdeal.Gen

variable (m : (ℓ : Loc nD τ sig) → Buf (Elt Ideal) ℓ) (c : Dev nD)

theorem inX_eq : inX m c = m ((c.tc : Thread nD τ).loc main_arg0) :=
  Memref.read_access_unit_zero (Elt Ideal) main_arg0 (off := fun a => 0 * main_arg0.ty.shape.size a) (funext fun a => Nat.zero_mul _) _ _

theorem inQ_eq : inQ m c = m ((c.tc : Thread nD τ).loc main_arg1) :=
  Memref.read_access_unit_zero (Elt Ideal) main_arg1 (off := fun a => 0 * main_arg1.ty.shape.size a) (funext fun a => Nat.zero_mul _) _ _

theorem inO_eq : inO m c = m ((c.tc : Thread nD τ).loc main_arg4) :=
  Memref.read_access_unit_zero (Elt Ideal) main_arg4 (off := fun a => 0 * main_arg4.ty.shape.size a) (funext fun a => Nat.zero_mul _) _ _

theorem V_keys : V m c main_v1 = transpose S32x2x512x64 [2, 0, 1, 3] (m ((c.tc : Thread nD τ).loc main_arg2) : Vec Ideal S2x512x32x64 .bf16) transposes_S2x512x32x64_S32x2x512x64_2_0_1_3 := rfl

theorem V_values : V m c main_v2 = transpose S32x2x512x64 [2, 0, 1, 3] (m ((c.tc : Thread nD τ).loc main_arg3) : Vec Ideal S2x512x32x64 .bf16) transposes_S2x512x32x64_S32x2x512x64_2_0_1_3 := rfl

theorem inK_eq : inK m c = V m c main_v1 :=
  Memref.read_access_unit_zero (Elt Ideal) main_v1 (off := fun a => 0 * main_v1.ty.shape.size a) (funext fun a => Nat.zero_mul _) _ _

theorem inV_eq : inV m c = V m c main_v2 :=
  Memref.read_access_unit_zero (Elt Ideal) main_v2 (off := fun a => 0 * main_v2.ty.shape.size a) (funext fun a => Nat.zero_mul _) _ _

theorem transpose_heads (a : FVec Ideal S2x512x32x64 .bf16) (h : Fin 32) (b : Fin 2) (j : Fin 512) (d : Fin 64) :
    transpose S32x2x512x64 [2, 0, 1, 3] a transposes_S2x512x32x64_S32x2x512x64_2_0_1_3 (ix4 h b j d) = a (ix4 b j h d) := by
  pointwise []

theorem inK_apply (h : Fin 32) (b : Fin 2) (j : Fin 512) (d : Fin 64) :
    inK m c (ix4 h b j d) = (m ((c.tc : Thread nD τ).loc main_arg2) : FVec Ideal S2x512x32x64 .bf16) (ix4 b j h d) := by
  rw [inK_eq, V_keys]
  exact transpose_heads _ h b j d

theorem inV_apply (h : Fin 32) (b : Fin 2) (j : Fin 512) (d : Fin 64) :
    inV m c (ix4 h b j d) = (m ((c.tc : Thread nD τ).loc main_arg3) : FVec Ideal S2x512x32x64 .bf16) (ix4 b j h d) := by
  rw [inV_eq, V_values]
  exact transpose_heads _ h b j d

end Cert.RingAttn

end
-- ==== Proof.RefTerms.lean ====
/-
  The reference's result, its long term cut in named stages: the blocks of tokens and keys, the mask, the scores, the
  weights and the context.
-/
module

public import proofs.«01_k».proof.Proof.Gen.ReferenceIdeal.Run

@[expose] public section

set_option maxRecDepth 16384

noncomputable section

namespace Cert.RingAttn.Ref

open Idealize.ShloMosaic Idealize.SL.Sem
open Cert.ReferenceIdeal Cert.ReferenceIdeal.Gen

variable {F : FTy → Type} [FloatOps F]

/-- The block of 64 that a token lies in. -/
def tokenBlock : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The block of 64 that a key lies in. -/
def keyBlock : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

def tokenCol : IVec S2048x1 32 := broadcastInDim S2048x1 ![0] bcast_S2048_S2048x1_0 tokenBlock
def keyRow : IVec S1x512 32 := broadcastInDim S1x512 ![1] bcast_S512_S1x512_1 keyBlock

/-- The number of groups. -/
def groups : IVec S_ 32 :=
  select (cmpi .eq (id (constantI S_ 32 4#32)) (constantI S_ 32 0#32)) (constantI S_ 32 1#32) (id (constantI S_ 32 4#32))

/-- The group of a token: its block modulo the number of groups. -/
def tokenGroup : IVec S2048x1 32 :=
  select (andi (cmpi .ne (cmpi .slt (Host.remsi tokenCol (broadcastInDim S2048x1 ![] bcast_S_S2048x1 groups))
          (broadcastInDim S2048x1 ![] bcast_S_S2048x1 (constantI S_ 32 0#32)))
        (broadcastInDim S2048x1 ![] bcast_S_S2048x1 (cmpi .slt groups (constantI S_ 32 0#32))))
      (cmpi .ne (Host.remsi tokenCol (broadcastInDim S2048x1 ![] bcast_S_S2048x1 groups))
        (broadcastInDim S2048x1 ![] bcast_S_S2048x1 (constantI S_ 32 0#32))))
    (addi (Host.remsi tokenCol (broadcastInDim S2048x1 ![] bcast_S_S2048x1 groups)) (broadcastInDim S2048x1 ![] bcast_S_S2048x1 groups))
    (Host.remsi tokenCol (broadcastInDim S2048x1 ![] bcast_S_S2048x1 groups))

/-- The group of a key. -/
def keyGroup : IVec S1x512 32 :=
  select (andi (cmpi .ne (cmpi .slt (Host.remsi keyRow (broadcastInDim S1x512 ![] bcast_S_S1x512 groups))
          (broadcastInDim S1x512 ![] bcast_S_S1x512 (constantI S_ 32 0#32)))
        (broadcastInDim S1x512 ![] bcast_S_S1x512 (cmpi .slt groups (constantI S_ 32 0#32))))
      (cmpi .ne (Host.remsi keyRow (broadcastInDim S1x512 ![] bcast_S_S1x512 groups))
        (broadcastInDim S1x512 ![] bcast_S_S1x512 (constantI S_ 32 0#32))))
    (addi (Host.remsi keyRow (broadcastInDim S1x512 ![] bcast_S_S1x512 groups)) (broadcastInDim S1x512 ![] bcast_S_S1x512 groups))
    (Host.remsi keyRow (broadcastInDim S1x512 ![] bcast_S_S1x512 groups))

/-- The mask: which keys a token attends to. -/
def keepMask : IVec S2048x512 1 :=
  ori (cmpi .eq (broadcastInDim S2048x512 ![0, 1] bcast_S2048x1_S2048x512_0_1 tokenCol)
      (broadcastInDim S2048x512 ![0, 1] bcast_S1x512_S2048x512_0_1 keyRow))
    (cmpi .eq (broadcastInDim S2048x512 ![0, 1] bcast_S1x512_S2048x512_0_1 keyGroup)
      (broadcastInDim S2048x512 ![0, 1] bcast_S2048x1_S2048x512_0_1 tokenGroup))

/-- Whether a token attends to a key at all. -/
def rowKeep : IVec S2048 1 := Host.reduce IntOp.ori keepMask (constantI S_ 1 0#1) reducesTo_S2048x512_S2048_d1 h_S_

variable (x : FVec F S2x2048x768 .bf16) (wq : FVec F S768x2048 .bf16) (k v : FVec F S2x512x32x64 .bf16) (wo : FVec F S2048x768 .bf16)

/-- The scores, scaled. -/
def scores : FVec F S2x32x2048x512 .f32 :=
  mulf (Host.dotGeneral dot_S2x2048x32x64_S2x512x32x64_S2x32x2048x512_3_3_1_1_02_02 none
      (shapeCast S2x2048x32x64 (Host.dotGeneral dot_S2x2048x768_S768x2048_S2x2048x2048_2_0_01_1_n_n none (extf .f32 x bitsLt_bf16_f32)
        (extf .f32 wq bitsLt_bf16_f32)) shapeCasts_S2x2048x2048_S2x2048x32x64) (extf .f32 k bitsLt_bf16_f32))
    (broadcastInDim S2x32x2048x512 ![] bcast_S_S2x32x2048x512 (constant S_ .f32 0x3E000000#32))

/-- The scores with minus infinity where the mask drops a key. -/
def masked (s : FVec F S2x32x2048x512 .f32) : FVec F S2x32x2048x512 .f32 :=
  select (broadcastInDim S2x32x2048x512 ![0, 1, 2, 3] bcast_S1x1x2048x512_S2x32x2048x512_0_1_2_3
      (broadcastInDim S1x1x2048x512 ![2, 3] bcast_S2048x512_S1x1x2048x512_2_3 keepMask)) s
    (broadcastInDim S2x32x2048x512 ![] bcast_S_S2x32x2048x512 (id (constant S_ .f32 0xFF800000#32)))

/-- The exponentials of the masked scores, less each row's greatest. -/
def expo (s : FVec F S2x32x2048x512 .f32) : FVec F S2x32x2048x512 .f32 :=
  Host.exp (subf s (broadcastInDim S2x32x2048x512 ![0, 1, 2, 3] bcast_S2x32x2048x1_S2x32x2048x512_0_1_2_3
    (broadcastInDim S2x32x2048x1 ![0, 1, 2] bcast_S2x32x2048_S2x32x2048x1_0_1_2
      (Host.reduce FloatOps.maximumf s (constant S_ .f32 0xFF800000#32) reducesTo_S2x32x2048x512_S2x32x2048_d3 h_S_))))

/-- The weights of the keys: the exponentials over their sum, and zero in a row that keeps no key. -/
def weigh (w : FVec F S2x32x2048x512 .f32) : FVec F S2x32x2048x512 .f32 :=
  select (broadcastInDim S2x32x2048x512 ![0, 1, 2, 3] bcast_S1x1x2048x1_S2x32x2048x512_0_1_2_3
      (broadcastInDim S1x1x2048x1 ![2] bcast_S2048_S1x1x2048x1_2 rowKeep))
    (Host.divf w (broadcastInDim S2x32x2048x512 ![0, 1, 2, 3] bcast_S2x32x2048x1_S2x32x2048x512_0_1_2_3
      (select (broadcastInDim S2x32x2048x1 ![0, 1, 2, 3] bcast_S1x1x2048x1_S2x32x2048x1_0_1_2_3
          (broadcastInDim S1x1x2048x1 ![2] bcast_S2048_S1x1x2048x1_2 rowKeep))
        (broadcastInDim S2x32x2048x1 ![0, 1, 2] bcast_S2x32x2048_S2x32x2048x1_0_1_2
          (Host.reduceAdd w (constant S_ .f32 0x00000000#32) reducesTo_S2x32x2048x512_S2x32x2048_d3 h_S_))
        (broadcastInDim S2x32x2048x1 ![] bcast_S_S2x32x2048x1 (id (constant S_ .f32 0x3F800000#32))))))
    (broadcastInDim S2x32x2048x512 ![] bcast_S_S2x32x2048x512 (id (constant S_ .f32 0x00000000#32)))

/-- The context matrix. -/
def contextMatrix (w : FVec F S2x32x2048x512 .f32) : FVec F S2x2048x2048 .f32 :=
  shapeCast S2x2048x2048 (transpose S2x2048x32x64 [0, 3, 1, 2]
    (Host.dotGeneral dot_S2x512x32x64_S2x32x2048x512_S2x32x64x2048_1_3_3_2_02_01 none (extf .f32 v bitsLt_bf16_f32) w)
    transposes_S2x32x64x2048_S2x2048x32x64_0_3_1_2) shapeCasts_S2x2048x32x64_S2x2048x2048

/-- The result. -/
def result : FVec F S2x2048x768 .f32 :=
  Host.dotGeneral dot_S2x2048x2048_S2048x768_S2x2048x768_2_0_01_1_n_n none (contextMatrix v (weigh (expo (masked (scores x wq k)))))
    (extf .f32 wo bitsLt_bf16_f32)

theorem res_eq (m : (ℓ : Loc nD τ sig) → Buf (Elt F) ℓ) (c : Dev nD) :
    Cert.ReferenceIdeal.Value.res_main_v44 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.RingAttn.Ref

end
-- ==== Proof.Mask.lean ====
/-
  The reference's mask at an index: a token keeps the keys whose block of 64 has the token's block modulo four. Every token
  keeps some key.
-/
module

public import proofs.«01_k».proof.Proof.RefTerms
public import Idealize.ShloMosaic.PureOps.Ideal
public import Idealize.ShloMosaic.Lib.Pointwise.Index
import Idealize.ShloMosaic.Lib.Pointwise
import Idealize.ShloMosaic.Lib.Routing.Words
import Idealize.ShloMosaic.Lib.Routing.OpsOrder

@[expose] public section

set_option maxRecDepth 16384

noncomputable section

namespace Cert.RingAttn.Ref

open Idealize.ShloMosaic Idealize.SL.Sem
open Cert.ReferenceIdeal Cert.ReferenceIdeal.Gen

/-- The floor division by 64 as it prints, of the word of a small natural. -/
theorem floor_word {t : ℕ} (ht : t < 2048) :
    Scalar.select
      (IntOp.andi
        (IntOp.cmpi CmpIPredicate.ne (if BitVec.ofNat 32 t = 0 then (0 : BitVec 32) else if (BitVec.ofNat 32 t).msb = true then -1 else 1)
          (if (64#32 : BitVec 32) = 0 then 0 else if (64#32 : BitVec 32).msb = true then -1 else 1))
        (IntOp.cmpi CmpIPredicate.ne (IntOp.remsi ArithUnit.host (BitVec.ofNat 32 t) 64#32) 0#32))
      (IntOp.subi (IntOp.divsi ArithUnit.host (BitVec.ofNat 32 t) 64#32) 1#32)
      (IntOp.divsi ArithUnit.host (BitVec.ofNat 32 t) 64#32)
      = BitVec.ofNat 32 (t / 64) := by
  have hd : IntOp.divsi ArithUnit.host (BitVec.ofNat 32 t) 64#32 = BitVec.ofNat 32 (t / 64) :=
    Routing.divsi_word .host (by omega) (by omega) (by omega)
  have hr : IntOp.remsi ArithUnit.host (BitVec.ofNat 32 t) 64#32 = BitVec.ofNat 32 (t % 64) :=
    Routing.remsi_word .host (by omega) (by omega) (by omega)
  rw [hd, hr]
  rcases Nat.eq_zero_or_pos t with h | h
  · subst h; decide
  · have h0 : BitVec.ofNat 32 t ≠ 0 := Routing.ofNat32_ne_zero h (by omega)
    have h1 : (BitVec.ofNat 32 t).msb = false := Routing.msb_ofNat32 (by omega)
    rw [if_neg h0, h1]
    have e : IntOp.cmpi CmpIPredicate.ne (if false = true then (-1 : BitVec 32) else 1)
        (if (64#32 : BitVec 32) = 0 then 0 else if (64#32 : BitVec 32).msb = true then -1 else 1) = 0#1 := by decide
    rw [e]
    have z : ∀ a : BitVec 1, IntOp.andi 0#1 a = 0#1 := by decide
    rw [z]
    rfl

theorem tokenBlock_apply (t : Fin 2048) : tokenBlock (ix1 t) = BitVec.ofNat 32 (t.val / 64) := by
  rw [← floor_word t.isLt]
  pointwise [tokenBlock]
  rfl

theorem keyBlock_apply (j : Fin 512) : keyBlock (ix1 j) = BitVec.ofNat 32 (j.val / 64) := by
  rw [← floor_word (show j.val < 2048 by omega)]
  pointwise [keyBlock]
  rfl

/-- The remainder by the number of groups as it prints. -/
def groupWord (a : BitVec 32) : BitVec 32 :=
  Scalar.select
    (IntOp.andi
      (IntOp.cmpi CmpIPredicate.ne (IntOp.cmpi CmpIPredicate.slt (IntOp.remsi ArithUnit.host a 4#32) 0#32) (IntOp.cmpi CmpIPredicate.slt (4#32 : BitVec 32) 0#32))
      (IntOp.cmpi CmpIPredicate.ne (IntOp.remsi ArithUnit.host a 4#32) 0#32))
    (IntOp.addi (IntOp.remsi ArithUnit.host a 4#32) 4#32) (IntOp.remsi ArithUnit.host a 4#32)

theorem groupWord_eq {q : ℕ} (hq : q < 32) : groupWord (BitVec.ofNat 32 q) = BitVec.ofNat 32 (q % 4) := by
  have hr : IntOp.remsi ArithUnit.host (BitVec.ofNat 32 q) 4#32 = BitVec.ofNat 32 (q % 4) :=
    Routing.remsi_word .host (by omega) (by omega) (by omega)
  have hg : ∀ g : Fin 4, Scalar.select
      (IntOp.andi
        (IntOp.cmpi CmpIPredicate.ne (IntOp.cmpi CmpIPredicate.slt (BitVec.ofNat 32 g.val) 0#32) (IntOp.cmpi CmpIPredicate.slt (4#32 : BitVec 32) 0#32))
        (IntOp.cmpi CmpIPredicate.ne (BitVec.ofNat 32 g.val) 0#32))
      (IntOp.addi (BitVec.ofNat 32 g.val) 4#32) (BitVec.ofNat 32 g.val) = BitVec.ofNat 32 g.val := by decide
  rw [groupWord, hr]
  exact hg ⟨q % 4, by omega⟩

theorem groups_apply : groups ix0 = 4#32 := by
  show Scalar.select (IntOp.cmpi .eq 4#32 0#32) (1#32 : BitVec 32) 4#32 = 4#32
  decide

theorem tokenGroup_apply (t : Fin 2048) : tokenGroup (ix2 t 0) = BitVec.ofNat 32 (t.val / 64 % 4) := by
  have h : tokenGroup (ix2 t 0) = groupWord (tokenBlock (ix1 t)) := by
    unfold groupWord
    rw [← groups_apply]
    pointwise [tokenGroup, tokenCol]
  rw [h, tokenBlock_apply, groupWord_eq (by omega)]

theorem keyGroup_apply (j : Fin 512) : keyGroup (ix2 0 j) = BitVec.ofNat 32 (j.val / 64 % 4) := by
  have h : keyGroup (ix2 0 j) = groupWord (keyBlock (ix1 j)) := by
    unfold groupWord
    rw [← groups_apply]
    pointwise [keyGroup, keyRow]
  rw [h, keyBlock_apply, groupWord_eq (by omega)]

theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- The equality of the words of two small naturals. -/
theorem eq_word {a b : ℕ} (ha : a < 2 ^ 32) (hb : b < 2 ^ 32) :
    IntOp.cmpi CmpIPredicate.eq (BitVec.ofNat 32 a) (BitVec.ofNat 32 b) = if a = b then 1#1 else 0#1 := by
  by_cases h : a = b
  · subst h; rw [if_pos rfl]; simp [IntOp.cmpi]
  · have h' : BitVec.ofNat 32 a ≠ BitVec.ofNat 32 b := fun e => h (ofNat_inj ha hb e)
    rw [if_neg h]
    simp only [IntOp.cmpi, beq_eq_false_iff_ne.mpr h']
    rfl

/-- The mask at a token and a key. -/
theorem keepMask_apply (t : Fin 2048) (j : Fin 512) :
    keepMask (ix2 t j) = if j.val / 64 % 4 = t.val / 64 % 4 then 1#1 else 0#1 := by
  have h : keepMask (ix2 t j) = IntOp.ori (IntOp.cmpi CmpIPredicate.eq (tokenBlock (ix1 t)) (keyBlock (ix1 j)))
      (IntOp.cmpi CmpIPredicate.eq (keyGroup (ix2 0 j)) (tokenGroup (ix2 t 0))) := by
    pointwise [keepMask, tokenCol, keyRow]
  rw [h, tokenBlock_apply, keyBlock_apply, tokenGroup_apply, keyGroup_apply, eq_word (by omega) (by omega), eq_word (by omega) (by omega)]
  by_cases hg : j.val / 64 % 4 = t.val / 64 % 4
  · rw [if_pos hg]; split <;> decide
  · have hb : ¬ t.val / 64 = j.val / 64 := fun e => hg (by rw [e])
    rw [if_neg hg, if_neg hb]; decide

/-- Every token keeps some key. -/
theorem rowKeep_apply (t : Fin 2048) : rowKeep (ix1 t) = 1#1 := by
  have h : rowKeep (ix1 t) = Finset.fold IntOp.ori (0#1) (fun x => keepMask (ix2 t x)) Finset.univ := by
    pointwise [rowKeep]
  rw [h, Routing.fold_ori]
  refine ⟨⟨t.val / 64 % 4 * 64, by omega⟩, Finset.mem_univ _, ?_⟩
  rw [keepMask_apply, if_pos]
  show t.val / 64 % 4 * 64 / 64 % 4 = t.val / 64 % 4
  omega

end Cert.RingAttn.Ref

end
-- ==== Proof.RefValue.lean ====
/-
  The reference's result at an index, over the extended reals. Where the scores are real, each row of the masked softmax is
  the softmax over the keys that the row keeps.
-/
module

public import proofs.«01_k».proof.Proof.Mask
public import proofs.«01_k».proof.Proof.ChunkValue
import Idealize.ShloMosaic.Lib.Pointwise

@[expose] public section

set_option maxRecDepth 16384

noncomputable section

namespace Cert.RingAttn.Ref

open Idealize.ShloMosaic Idealize.SL.Sem
open Cert.ReferenceIdeal Cert.ReferenceIdeal.Gen

variable (x : FVec Ideal S2x2048x768 .bf16) (wq : FVec Ideal S768x2048 .bf16) (k v : FVec Ideal S2x512x32x64 .bf16) (wo : FVec Ideal S2048x768 .bf16)

/-- The score of a token and a key in a head. -/
def score (b : Fin 2) (h : Fin 32) (t : Fin 2048) (j : Fin 512) : EReal :=
  (∑ d : Fin 64, (∑ e : Fin 768, x (ix3 b t e) * wq (ix2 e ⟨h.val * 64 + d.val, by omega⟩)) * k (ix4 b j h d)) * scale

theorem scores_apply (b : Fin 2) (h : Fin 32) (t : Fin 2048) (j : Fin 512) : scores x wq k (ix4 b h t j) = score x wq k b h t j := by
  unfold score scale
  pointwise [scores]

theorem negInf : Ideal.ofBits .f32 0xFF800000#32 = ⊥ := by simp [Ideal.ofBits, Ideal.ieee]

theorem masked_apply (s : FVec Ideal S2x32x2048x512 .f32) (b : Fin 2) (h : Fin 32) (t : Fin 2048) (j : Fin 512) :
    masked s (ix4 b h t j) = if j.val / 64 % 4 = t.val / 64 % 4 then s (ix4 b h t j) else ⊥ := by
  have e : masked s (ix4 b h t j)
      = Scalar.select (keepMask (ix2 t j)) (s (ix4 b h t j)) (id (constant (F := Ideal) S_ FTy.f32 0xFF800000#32) ix0) := by
    pointwise [masked]
  rw [e, keepMask_apply, show id (constant (F := Ideal) S_ FTy.f32 0xFF800000#32) ix0 = (⊥ : EReal) from negInf]
  split <;> rfl

theorem expo_apply (s : FVec Ideal S2x32x2048x512 .f32) (b : Fin 2) (h : Fin 32) (t : Fin 2048) (j : Fin 512) :
    expo s (ix4 b h t j) = Ideal.exp (s (ix4 b h t j) - Finset.univ.fold max ⊥ fun j' => s (ix4 b h t j')) := by
  rw [← negInf]
  pointwise [expo]

theorem weigh_apply (w : FVec Ideal S2x32x2048x512 .f32) (b : Fin 2) (h : Fin 32) (t : Fin 2048) (j : Fin 512) :
    weigh w (ix4 b h t j) = Ideal.div (w (ix4 b h t j)) (∑ j' : Fin 512, w (ix4 b h t j')) := by
  have e : weigh w (ix4 b h t j)
      = Scalar.select (rowKeep (ix1 t)) (Ideal.div (w (ix4 b h t j))
          (Scalar.select (rowKeep (ix1 t)) (∑ j' : Fin 512, w (ix4 b h t j')) (id (constant (F := Ideal) S_ FTy.f32 0x3F800000#32) ix0)))
        (id (constant (F := Ideal) S_ FTy.f32 0x00000000#32) ix0) := by
    pointwise [weigh]
  rw [e, rowKeep_apply]
  rfl

theorem contextMatrix_apply (w : FVec Ideal S2x32x2048x512 .f32) (b : Fin 2) (t n : Fin 2048) :
    contextMatrix v w (ix3 b t n)
      = ∑ j : Fin 512, v (ix4 b j ⟨n.val / 64, by omega⟩ ⟨n.val % 64, by omega⟩) * w (ix4 b ⟨n.val / 64, by omega⟩ t j) := by
  pointwise [contextMatrix]

theorem key_injective (t : ℕ) : Function.Injective (key t) := fun i i' h => by
  have h' : i.val / 64 * 256 + t / 64 % 4 * 64 + i.val % 64 = i'.val / 64 * 256 + t / 64 % 4 * 64 + i'.val % 64 := congrArg Fin.val h
  exact Fin.ext (by omega)

/-- The keys that a token keeps are those of its `key` list. -/
theorem keep_iff (t : ℕ) (j : Fin 512) : j.val / 64 % 4 = t / 64 % 4 ↔ j ∈ Set.range (key t) := by
  constructor
  · intro h
    refine ⟨⟨j.val / 256 * 64 + j.val % 64, by omega⟩, Fin.ext ?_⟩
    show (j.val / 256 * 64 + j.val % 64) / 64 * 256 + t / 64 % 4 * 64 + (j.val / 256 * 64 + j.val % 64) % 64 = j.val
    omega
  · rintro ⟨i, rfl⟩
    show (i.val / 64 * 256 + t / 64 % 4 * 64 + i.val % 64) / 64 % 4 = t / 64 % 4
    omega

/-- The context at an index, where the scores are real. -/
theorem context_row (hs : ∀ b h t j, ∃ r : ℝ, score x wq k b h t j = r) (b : Fin 2) (t n : Fin 2048) :
    contextMatrix v (weigh (expo (masked (scores x wq k)))) (ix3 b t n)
      = softRow (fun i => score x wq k b ⟨n.val / 64, by omega⟩ t (key t.val i))
          (fun i => v (ix4 b (key t.val i) ⟨n.val / 64, by omega⟩ ⟨n.val % 64, by omega⟩)) := by
  rw [contextMatrix_apply]
  simp only [weigh_apply, expo_apply, masked_apply, scores_apply]
  exact masked_row (key t.val) (key_injective t.val) ⟨0, by omega⟩
    (fun j => score x wq k b ⟨n.val / 64, by omega⟩ t j) (fun j => v (ix4 b j ⟨n.val / 64, by omega⟩ ⟨n.val % 64, by omega⟩))
    (fun j => j.val / 64 % 4 = t.val / 64 % 4) (keep_iff t.val) (fun i => hs _ _ _ _)

theorem result_apply (hs : ∀ b h t j, ∃ r : ℝ, score x wq k b h t j = r) (b : Fin 2) (t : Fin 2048) (e : Fin 768) :
    result x wq k v wo (ix3 b t e)
      = ∑ n : Fin 2048, softRow (fun i => score x wq k b ⟨n.val / 64, by omega⟩ t (key t.val i))
          (fun i => v (ix4 b (key t.val i) ⟨n.val / 64, by omega⟩ ⟨n.val % 64, by omega⟩)) * wo (ix2 n e) := by
  have h : result x wq k v wo (ix3 b t e)
      = ∑ n : Fin 2048, contextMatrix v (weigh (expo (masked (scores x wq k)))) (ix3 b t n) * wo (ix2 n e) := by
    pointwise [result]
  rw [h]
  exact Finset.sum_congr rfl fun n _ => by rw [context_row x wq k v hs]

end Cert.RingAttn.Ref

end
-- ==== Proof.Join.lean ====
/-
  The two results are one: with each device's arguments a block of the reference's, the four parts of a device's result add
  up to the reference's sum over all the context columns, at that device's tokens.
-/
module

public import proofs.«01_k».proof.Proof.KernelValue
public import proofs.«01_k».proof.Proof.RefValue
public import Idealize.ShloMosaic.Lib.Layout
import Idealize.ShloMosaic.Lib.Pointwise

@[expose] public section

set_option maxRecDepth 16384

noncomputable section

namespace Cert.RingAttn

open Idealize.ShloMosaic Idealize.SL.Sem
open Cert.KernelIdeal

theorem scale_eq : scale = ((1 / 8 : ℝ) : EReal) := by
  unfold scale
  simp [Ideal.ofBits, Ideal.ieee, -EReal.coe_mul]
  norm_num

/-- A block of token rows at an index. -/
theorem tokens_apply (x : (⟨3, ![2, 2048, 768]⟩ : Shape).Idx → EReal) (c : Fin 4) (b : Fin 2) (s : Fin 512) (e : Fin 768) :
    Layout.block ⟨3, ![2, 512, 768]⟩ ⟨3, ![2, 2048, 768]⟩ 1 4 c x (by decide) (ix3 b s e) = x (ix3 b ⟨c.val * 512 + s.val, by omega⟩ e) := by
  rw [Layout.block_apply]
  refine congrArg x (funext fun i => Fin.ext ?_)
  rw [Layout.Tiles.idx_val]
  match i with
  | 0 => rfl
  | 1 => rfl
  | 2 => rfl

theorem columns_apply (q : (⟨2, ![768, 2048]⟩ : Shape).Idx → EReal) (c : Fin 4) (e : Fin 768) (n : Fin 512) :
    Layout.block ⟨2, ![768, 512]⟩ ⟨2, ![768, 2048]⟩ 1 4 c q (by decide) (ix2 e n) = q (ix2 e ⟨c.val * 512 + n.val, by omega⟩) := by
  rw [Layout.block_apply]
  refine congrArg q (funext fun i => Fin.ext ?_)
  rw [Layout.Tiles.idx_val]
  match i with
  | 0 => rfl
  | 1 => rfl

theorem rows_apply (o : (⟨2, ![2048, 768]⟩ : Shape).Idx → EReal) (c : Fin 4) (n : Fin 512) (e : Fin 768) :
    Layout.block ⟨2, ![512, 768]⟩ ⟨2, ![2048, 768]⟩ 0 4 c o (by decide) (ix2 n e) = o (ix2 ⟨c.val * 512 + n.val, by omega⟩ e) := by
  rw [Layout.block_apply]
  refine congrArg o (funext fun i => Fin.ext ?_)
  rw [Layout.Tiles.idx_val]
  match i with
  | 0 => rfl
  | 1 => rfl

/-- The four devices, in the order in which device `c` takes them. -/
theorem sum_devices (f : Fin 4 → EReal) (c : Dev nD) : f c + f (prv c) + f (nxt c) + f (dia c) = ∑ j : Fin 4, f j := by
  rw [Fin.sum_univ_four]
  match c with
  | 0 => show f 0 + f 3 + f 1 + f 2 = _; abel
  | 1 => show f 1 + f 0 + f 2 + f 3 = _; abel
  | 2 => show f 2 + f 1 + f 3 + f 0 = _; abel
  | 3 => show f 3 + f 2 + f 0 + f 1 = _; abel

variable (x : FVec Ideal ⟨3, ![2, 2048, 768]⟩ .bf16) (wq : FVec Ideal ⟨2, ![768, 2048]⟩ .bf16) (k v : FVec Ideal ⟨4, ![2, 512, 32, 64]⟩ .bf16)
  (wo : FVec Ideal ⟨2, ![2048, 768]⟩ .bf16)

/-- The score with the scale taken inside the sum, as the kernel has it. -/
theorem score_eq (b : Fin 2) (h : Fin 32) (t : Fin 2048) (j : Fin 512) :
    Ref.score x wq k b h t j
      = ∑ d : Fin 64, ((∑ e : Fin 768, x (ix3 b t e) * wq (ix2 e ⟨h.val * 64 + d.val, by omega⟩)) * scale) * k (ix4 b j h d) := by
  unfold Ref.score
  rw [scale_eq, sum_mul_coe _ _ (by norm_num)]
  exact Finset.sum_congr rfl fun d _ => mul_right_comm _ _ _

/-- The part of device `j`'s heads, over the reference's arguments. -/
theorem part_eq (xc : FVec Ideal S2x512x768 .bf16) (q : FVec Ideal S768x512 .bf16) (kh vh : FVec Ideal S32x2x512x64 .bf16)
    (o : FVec Ideal S512x768 .bf16) (c j : Fin 4)
    (hx : ∀ b s e, xc (ix3 b s e) = x (ix3 b ⟨c.val * 512 + s.val, by omega⟩ e))
    (hq : ∀ e n, q (ix2 e n) = wq (ix2 e ⟨j.val * 512 + n.val, by omega⟩))
    (hk : ∀ h b t d, kh (ix4 h b t d) = k (ix4 b t h d)) (hv : ∀ h b t d, vh (ix4 h b t d) = v (ix4 b t h d))
    (ho : ∀ n e, o (ix2 n e) = wo (ix2 ⟨j.val * 512 + n.val, by omega⟩ e)) (b : Fin 2) (s : Fin 512) (e : Fin 768) :
    part xc q kh vh o j b s e
      = ∑ n : Fin 512, softRow
          (fun i => Ref.score x wq k b ⟨(j.val * 512 + n.val) / 64, by omega⟩ ⟨c.val * 512 + s.val, by omega⟩ (key (c.val * 512 + s.val) i))
          (fun i => v (ix4 b (key (c.val * 512 + s.val) i) ⟨(j.val * 512 + n.val) / 64, by omega⟩ ⟨(j.val * 512 + n.val) % 64, by omega⟩))
          * wo (ix2 ⟨j.val * 512 + n.val, by omega⟩ e) := by
  unfold part
  refine Finset.sum_congr rfl fun n _ => ?_
  have e1 : 8 * j.val + n.val / 64 = (j.val * 512 + n.val) / 64 := by omega
  have e2 : n.val % 64 = (j.val * 512 + n.val) % 64 := by omega
  have e3 : ∀ d : Fin 64, j.val * 512 + (n.val / 64 * 64 + d.val) = (j.val * 512 + n.val) / 64 * 64 + d.val := fun d => by omega
  simp only [hx, hq, hk, hv, ho, key_row, score_eq, e1, e3]
  congr 2
  funext i
  exact congrArg (fun z => v (ix4 b (key s.val i) ⟨(j.val * 512 + n.val) / 64, _⟩ z)) (Fin.ext e2)

/-- The four parts add up to the reference's result. -/
theorem parts_eq (hs : ∀ b h t j, ∃ r : ℝ, Ref.score x wq k b h t j = r)
    (xc : FVec Ideal S2x512x768 .bf16) (q : Fin 4 → FVec Ideal S768x512 .bf16) (kh vh : FVec Ideal S32x2x512x64 .bf16)
    (o : Fin 4 → FVec Ideal S512x768 .bf16) (c : Dev nD)
    (hx : ∀ b s e, xc (ix3 b s e) = x (ix3 b ⟨(show Fin 4 from c).val * 512 + s.val, by have : (show Fin 4 from c).val < 4 := (show Fin 4 from c).isLt; omega⟩ e))
    (hq : ∀ j e n, q j (ix2 e n) = wq (ix2 e ⟨j.val * 512 + n.val, by omega⟩))
    (hk : ∀ h b t d, kh (ix4 h b t d) = k (ix4 b t h d)) (hv : ∀ h b t d, vh (ix4 h b t d) = v (ix4 b t h d))
    (ho : ∀ j n e, o j (ix2 n e) = wo (ix2 ⟨j.val * 512 + n.val, by omega⟩ e)) (b : Fin 2) (s : Fin 512) (e : Fin 768) :
    part xc (q c) kh vh (o c) c b s e + part xc (q (prv c)) kh vh (o (prv c)) (prv c) b s e
        + part xc (q (nxt c)) kh vh (o (nxt c)) (nxt c) b s e + part xc (q (dia c)) kh vh (o (dia c)) (dia c) b s e
      = Ref.result x wq k v wo (ix3 b ⟨(show Fin 4 from c).val * 512 + s.val, by have : (show Fin 4 from c).val < 4 := (show Fin 4 from c).isLt; omega⟩ e) := by
  rw [Ref.result_apply x wq k v wo hs, Fin.sum_univ_tiles 4 512 (by norm_num),
    sum_devices (fun j => part xc (q j) kh vh (o j) j b s e) c]
  refine Finset.sum_congr rfl fun j _ => ?_
  exact part_eq x wq k v wo xc (q j) kh vh (o j) c j hx (hq j) hk hv (ho j) b s e

end Cert.RingAttn

end
-- ==== Proof.Finite.lean ====
/-
  The precondition: on every device the entries of the tokens, of the query weights and of the keys are real. Of it, the
  entries of the reference's arrays are real, and so are its scores.
-/
module

public import proofs.«01_k».proof.Defs
public import proofs.«01_k».proof.Proof.Join
import Idealize.ShloMosaic.Lib.Pointwise

@[expose] public section

set_option maxRecDepth 16384

noncomputable section

namespace Cert.RingAttn

open Idealize.ShloMosaic Idealize.SL.Sem

theorem kernelFacts : Cert.Pre_finite_scores_KernelIdeal.Facts where
  bitsLt_bf16_f32 := by decide
  bcast_S_S2x512x768 := by decide
  bcast_S_S768x512 := by decide
  bcast_S_S2x512x32x64 := by decide

theorem referenceFacts : Cert.Pre_finite_scores_ReferenceIdeal.Facts where
  bitsLt_bf16_f32 := by decide
  bcast_S_S2x2048x768 := by decide
  bcast_S_S768x2048 := by decide
  bcast_S_S2x512x32x64 := by decide

theorem posInf : Ideal.ofBits .f32 0x7F800000#32 = ⊤ := by simp [Ideal.ofBits, Ideal.ieee]

/-- An entry whose absolute value is below plus infinity is real. -/
theorem real_of_bit (y : EReal) (h : BitVec.ofBool (decide (max y (-y) < Ideal.ofBits .f32 0x7F800000#32)) = 1#1) : ∃ r : ℝ, y = r := by
  rw [posInf] at h
  induction y with
  | bot => simp at h
  | coe r => exact ⟨r, rfl⟩
  | top => simp at h

section

open Cert.Pre_finite_scores_KernelIdeal

attribute [local instance] kernelFacts

variable (x : FVec Ideal S2x512x768 .bf16) (q : FVec Ideal S768x512 .bf16) (k v : FVec Ideal S2x512x32x64 .bf16) (o : FVec Ideal S512x768 .bf16)

theorem tokens_real (h : (fn (F := Ideal) x q k v o).1 = fun _ => 1#1) (b : Fin 2) (s : Fin 512) (e : Fin 768) : ∃ r : ℝ, x (ix3 b s e) = r := by
  refine real_of_bit (x (ix3 b s e)) (Eq.trans ?_ (congrFun h (ix3 b s e)))
  pointwise [fn]
  rfl

theorem weights_real (h : (fn (F := Ideal) x q k v o).2.1 = fun _ => 1#1) (e : Fin 768) (n : Fin 512) : ∃ r : ℝ, q (ix2 e n) = r := by
  refine real_of_bit (q (ix2 e n)) (Eq.trans ?_ (congrFun h (ix2 e n)))
  pointwise [fn]
  rfl

theorem keys_real (h : (fn (F := Ideal) x q k v o).2.2 = fun _ => 1#1) (b : Fin 2) (j : Fin 512) (g : Fin 32) (d : Fin 64) :
    ∃ r : ℝ, k (ix4 b j g d) = r := by
  refine real_of_bit (k (ix4 b j g d)) (Eq.trans ?_ (congrFun h (ix4 b j g d)))
  pointwise [fn]
  rfl

end

/-- A sum of products of reals is real. -/
theorem sum_mul_real {n : ℕ} (f g : Fin n → EReal) (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-- The scores of real tokens, weights and keys are real. -/
theorem score_real (x : FVec Ideal ⟨3, ![2, 2048, 768]⟩ .bf16) (wq : FVec Ideal ⟨2, ![768, 2048]⟩ .bf16) (k : FVec Ideal ⟨4, ![2, 512, 32, 64]⟩ .bf16)
    (hx : ∀ b t e, ∃ r : ℝ, x (ix3 b t e) = r) (hq : ∀ e n, ∃ r : ℝ, wq (ix2 e n) = r) (hk : ∀ b j g d, ∃ r : ℝ, k (ix4 b j g d) = r)
    (b : Fin 2) (h : Fin 32) (t : Fin 2048) (j : Fin 512) : ∃ r : ℝ, Ref.score x wq k b h t j = r := by
  unfold Ref.score
  obtain ⟨r, hr⟩ := sum_mul_real (fun d : Fin 64 => ∑ e : Fin 768, x (ix3 b t e) * wq (ix2 e ⟨h.val * 64 + d.val, by omega⟩))
    (fun d => k (ix4 b j h d)) (fun d => sum_mul_real _ _ (fun e => hx b t e) (fun e => hq e _)) (fun d => hk b j h d)
  refine ⟨r * (1 / 8), ?_⟩
  rw [scale_eq, EReal.coe_mul]
  exact congrArg (· * _) hr

end Cert.RingAttn

end
-- ==== Proof.Algebraic.lean ====
/-
  The value claim: over the extended reals each device's result is its block of the reference's.
-/
module

public import proofs.«01_k».proof.Defs
public import proofs.«01_k».proof.Proof.Frames
public import proofs.«01_k».proof.Proof.Inputs
public import proofs.«01_k».proof.Proof.Finite

@[expose] public section

set_option maxRecDepth 16384

noncomputable section

namespace Cert.RingAttn

open Idealize.ShloMosaic Idealize.SL.Sem

attribute [local instance] kernelFacts referenceFacts

theorem frame_ideal_pre : Cert.quiescent_KernelIdeal_pre_finite_scores_KernelIdeal := fun m ρ _ => frame_ideal m ρ trivial

theorem frame_reference_pre : Cert.quiescent_ReferenceIdeal_pre_finite_scores_ReferenceIdeal := fun m ρ _ => frame_reference m ρ trivial

/-- Every token, column, row of a whole array lies in one device's block. -/
theorem place (t : Fin 2048) : ∃ (c : Fin 4) (s : Fin 512), t = ⟨c.val * 512 + s.val, by omega⟩ :=
  ⟨⟨t.val / 512, by omega⟩, ⟨t.val % 512, by omega⟩, Fin.ext (by show t.val = t.val / 512 * 512 + t.val % 512; omega)⟩

theorem algebraic : Cert.algebraic_KernelIdeal_ReferenceIdeal_pre_finite_scores_KernelIdeal := fun m ρ m' ρ' hpre hargs => by
  have hX : ∀ (c : Fin 4) b s e, (m (((show Dev Cert.KernelIdeal.nD from c).tc : Thread Cert.KernelIdeal.nD Cert.KernelIdeal.τ).loc Cert.KernelIdeal.main_arg0)
      : FVec Ideal Cert.KernelIdeal.S2x512x768 .bf16) (ix3 b s e)
      = (m' (((0 : Dev Cert.ReferenceIdeal.nD).tc : Thread Cert.ReferenceIdeal.nD Cert.ReferenceIdeal.τ).loc Cert.ReferenceIdeal.main_arg0)
        : FVec Ideal Cert.ReferenceIdeal.S2x2048x768 .bf16) (ix3 b ⟨c.val * 512 + s.val, by omega⟩ e) := fun c b s e => by
    rw [(hargs c).1]
    exact tokens_apply _ c b s e
  have hQ : ∀ (c : Fin 4) e n, (m (((show Dev Cert.KernelIdeal.nD from c).tc : Thread Cert.KernelIdeal.nD Cert.KernelIdeal.τ).loc Cert.KernelIdeal.main_arg1)
      : FVec Ideal Cert.KernelIdeal.S768x512 .bf16) (ix2 e n)
      = (m' (((0 : Dev Cert.ReferenceIdeal.nD).tc : Thread Cert.ReferenceIdeal.nD Cert.ReferenceIdeal.τ).loc Cert.ReferenceIdeal.main_arg1)
        : FVec Ideal Cert.ReferenceIdeal.S768x2048 .bf16) (ix2 e ⟨c.val * 512 + n.val, by omega⟩) := fun c e n => by
    rw [(hargs c).2.1]
    exact columns_apply _ c e n
  have hO : ∀ (c : Fin 4) n e, (m (((show Dev Cert.KernelIdeal.nD from c).tc : Thread Cert.KernelIdeal.nD Cert.KernelIdeal.τ).loc Cert.KernelIdeal.main_arg4)
      : FVec Ideal Cert.KernelIdeal.S512x768 .bf16) (ix2 n e)
      = (m' (((0 : Dev Cert.ReferenceIdeal.nD).tc : Thread Cert.ReferenceIdeal.nD Cert.ReferenceIdeal.τ).loc Cert.ReferenceIdeal.main_arg4)
        : FVec Ideal Cert.ReferenceIdeal.S2048x768 .bf16) (ix2 ⟨c.val * 512 + n.val, by omega⟩ e) := fun c n e => by
    rw [(hargs c).2.2.2.2]
    exact rows_apply _ c n e
  have hs := score_real
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (fun b t e => by
      obtain ⟨c, s, rfl⟩ := place t
      obtain ⟨r, hr⟩ := tokens_real _ _ _ _ _ (hpre c).1 b s e
      exact ⟨r, (hX c b s e).symm.trans hr⟩)
    (fun e n => by
      obtain ⟨c, s, rfl⟩ := place n
      obtain ⟨r, hr⟩ := weights_real _ _ _ _ _ (hpre c).2.1 e s
      exact ⟨r, (hQ c e s).symm.trans hr⟩)
    (fun b j g d => by
      obtain ⟨r, hr⟩ := keys_real _ _ _ _ _ (hpre 0).2.2 b j g d
      exact ⟨r, (congrFun (hargs 0).2.2.1 (ix4 b j g d)).symm.trans hr⟩)
  refine ⟨Cert.ReferenceIdeal.Value.res_main_v44 m' 0, ?_, ?_⟩
  · refine (θ_run Cert.KernelIdeal.defs _ _).mono (fun r h c => ⟨((h.1 c).1).trans (funext fun i => ?_), (h.1 c).2⟩) (run_main (F := Ideal) m ρ)
    rw [Ref.res_eq]
    obtain ⟨b, s, e, rfl⟩ : ∃ (b : Fin 2) (s : Fin 512) (e : Fin 768), i = ix3 b s e := ⟨i 0, i 1, i 2, eq_ix3 i⟩
    refine Eq.trans ?_ (tokens_apply _ c b s e).symm
    refine (outAt_apply m c b s e).trans ?_
    exact parts_eq _ _ _ _ _ hs (inX m c) (fun j => inQ m j) (inK m c) (inV m c) (fun j => inO m j) c
      (fun b s e => by rw [inX_eq]; exact hX c b s e)
      (fun j e n => by rw [inQ_eq]; exact hQ j e n)
      (fun h b t d => by rw [inK_apply]; exact congrFun (hargs c).2.2.1 (ix4 b t h d))
      (fun h b t d => by rw [inV_apply]; exact congrFun (hargs c).2.2.2.1 (ix4 b t h d))
      (fun j n e => by rw [inO_eq]; exact hO j n e) b s e
  · exact (θ_run Cert.ReferenceIdeal.defs _ _).mono (fun r h => h 0) (Cert.ReferenceIdeal.Value.run (F := Ideal) m' ρ')

end Cert.RingAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingAttn.kernelFacts, Cert.RingAttn.referenceFacts, Cert.RingAttn.frame_kernel, Cert.RingAttn.frame_ideal,
  Cert.RingAttn.frame_ideal_pre, Cert.RingAttn.frame_reference, Cert.RingAttn.frame_reference_pre, trivial,
  Cert.RingAttn.algebraic⟩

end Cert.Proof

end
